-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_in_range [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_edges_in_range [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_edges_in_range [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_n" .f32 0x3727C5AC#32 ((1 / 100000 : ℝ) : EReal)

def algebraic_KernelIdeal_ReferenceIdeal_pre_edges_in_range [hKernelIdeal : Cert.KernelIdeal.Facts] [hReferenceIdeal : Cert.ReferenceIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_edges_in_range : Cert.Pre_edges_in_range.Facts),
    quiescent_Kernel (hKernel := hKernel)
    ∧ quiescent_KernelIdeal (hKernelIdeal := hKernelIdeal)
    ∧ quiescent_KernelIdeal_pre_edges_in_range (hKernelIdeal := hKernelIdeal) (hPre_edges_in_range := hPre_edges_in_range)
    ∧ quiescent_ReferenceIdeal (hReferenceIdeal := hReferenceIdeal)
    ∧ quiescent_ReferenceIdeal_pre_edges_in_range (hReferenceIdeal := hReferenceIdeal) (hPre_edges_in_range := hPre_edges_in_range)
    ∧ preserves_Kernel_KernelIdeal
    ∧ algebraic_KernelIdeal_ReferenceIdeal_pre_edges_in_range (hKernelIdeal := hKernelIdeal) (hReferenceIdeal := hReferenceIdeal) (hPre_edges_in_range := hPre_edges_in_range)
-- ==== Pre_edges_in_range.lean ====
abbrev S100000x140 : Shape := ⟨2, ![100000, 140]⟩
abbrev S2x100000 : Shape := ⟨2, ![2, 100000]⟩
abbrev S1x200x18 : Shape := ⟨3, ![1, 200, 18]⟩
abbrev S1x140 : Shape := ⟨2, ![1, 140]⟩
abbrev S1 : Shape := ⟨1, ![1]⟩
abbrev S4x18 : Shape := ⟨2, ![4, 18]⟩
abbrev S4x1 : Shape := ⟨2, ![4, 1]⟩
abbrev S4 : Shape := ⟨1, ![4]⟩
abbrev S1x2 : Shape := ⟨2, ![1, 2]⟩
abbrev S1x100000 : Shape := ⟨2, ![1, 100000]⟩
abbrev S100000 : Shape := ⟨1, ![100000]⟩
abbrev S_ : Shape := ⟨0, ![]⟩

class Facts : Prop where
  slices_S2x100000_S1x100000_1_0 : S2x100000.Slices ![1, 0] S1x100000
  shapeCasts_S1x100000_S100000 : S1x100000.ShapeCasts S100000
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x140 .f32) (main_arg1 : IVec S2x100000 32) (main_arg2 : FVec F S1x200x18 .f32) (main_arg3 : FVec F S1x140 .f32) (main_arg4 : FVec F S1 .f32) (main_arg5 : FVec F S4x18 .f32) (main_arg6 : FVec F S4x1 .f32) (main_arg7 : FVec F S4 .f32) (main_arg8 : FVec F S4 .f32) (main_arg9 : FVec F S4x1 .f32) (main_arg10 : FVec F S4x1 .f32) (main_arg11 : FVec F S4 .f32) (main_arg12 : FVec F S4 .f32) (main_arg13 : FVec F S1x2 .f32) (main_arg14 : FVec F S1 .f32) : IVec S_ 1 :=
  let main_v0 : IVec S1x100000 32 := (extractStridedSlice S1x100000 ![1, 0] · slices_S2x100000_S1x100000_1_0) main_arg1
  let main_v1 : IVec S100000 32 := shapeCast S100000 main_v0 shapeCasts_S1x100000_S100000
  let main_c : IVec S_ 32 := constantI S_ 32 0#32
  let main_v2 : IVec S100000 32 := broadcastInDim S100000 ![] bcast_S_S100000 main_c
  let main_v3 : IVec S100000 1 := cmpi .sge main_v1 main_v2
  let main_v4 : IVec S1x100000 32 := (extractStridedSlice S1x100000 ![1, 0] · slices_S2x100000_S1x100000_1_0) main_arg1
  let main_v5 : IVec S100000 32 := shapeCast S100000 main_v4 shapeCasts_S1x100000_S100000
  let main_c_0 : IVec S_ 32 := constantI S_ 32 100000#32
  let main_v6 : IVec S100000 32 := broadcastInDim S100000 ![] bcast_S_S100000 main_c_0
  let main_v7 : IVec S100000 1 := cmpi .slt main_v5 main_v6
  let main_v8 : IVec S100000 1 := andi main_v3 main_v7
  let main_c_1 : IVec S_ 1 := constantI S_ 1 1#1
  let main_v9 : IVec S_ 1 := (fun x v => Host.reduce IntOp.andi x v reducesTo_S100000_S_d0 h_S_) main_v8 main_c_1
  main_v9
-- ==== Kernel.lean ====
abbrev S100000x140 : Shape := ⟨2, ![100000, 140]⟩
abbrev S2x100000 : Shape := ⟨2, ![2, 100000]⟩
abbrev S1x200x18 : Shape := ⟨3, ![1, 200, 18]⟩
abbrev S1x140 : Shape := ⟨2, ![1, 140]⟩
abbrev S1 : Shape := ⟨1, ![1]⟩
abbrev S4x18 : Shape := ⟨2, ![4, 18]⟩
abbrev S4x1 : Shape := ⟨2, ![4, 1]⟩
abbrev S4 : Shape := ⟨1, ![4]⟩
abbrev S1x2 : Shape := ⟨2, ![1, 2]⟩
abbrev S1x4 : Shape := ⟨2, ![1, 4]⟩
abbrev S200x18 : Shape := ⟨2, ![200, 18]⟩
abbrev S_ : Shape := ⟨0, ![]⟩
abbrev S140x1 : Shape := ⟨2, ![140, 1]⟩
abbrev S2 : Shape := ⟨1, ![2]⟩
abbrev S140x2 : Shape := ⟨2, ![140, 2]⟩
abbrev S1x1 : Shape := ⟨2, ![1, 1]⟩
abbrev S18x4 : Shape := ⟨2, ![18, 4]⟩
abbrev S2x10000x140 : Shape := ⟨3, ![2, 10000, 140]⟩
abbrev S200x4 : Shape := ⟨2, ![200, 4]⟩
abbrev S1x10000x140 : Shape := ⟨3, ![1, 10000, 140]⟩
abbrev S10000x140 : Shape := ⟨2, ![10000, 140]⟩
abbrev S20x4 : Shape := ⟨2, ![20, 4]⟩
abbrev S10000x2 : Shape := ⟨2, ![10000, 2]⟩
abbrev S10000x1 : Shape := ⟨2, ![10000, 1]⟩
abbrev S10000 : Shape := ⟨1, ![10000]⟩
abbrev S1x10000 : Shape := ⟨2, ![1, 10000]⟩

abbrev nBuf : Space → Nat
  | .hbm => 46
  | .vmem => 14
  | .smem => 0
  | _ => 0

abbrev bufTy : (tb : Table) → Fin (tcTables nBuf tb) → BufTy
  | .hbm, ⟨0, _⟩ => ⟨S100000x140, .f32⟩
  | .hbm, ⟨1, _⟩ => ⟨S2x100000, .i32⟩
  | .hbm, ⟨2, _⟩ => ⟨S1x200x18, .f32⟩
  | .hbm, ⟨3, _⟩ => ⟨S1x140, .f32⟩
  | .hbm, ⟨4, _⟩ => ⟨S1, .f32⟩
  | .hbm, ⟨5, _⟩ => ⟨S4x18, .f32⟩
  | .hbm, ⟨6, _⟩ => ⟨S4x1, .f32⟩
  | .hbm, ⟨7, _⟩ => ⟨S4, .f32⟩
  | .hbm, ⟨8, _⟩ => ⟨S4, .f32⟩
  | .hbm, ⟨9, _⟩ => ⟨S4x1, .f32⟩
  | .hbm, ⟨10, _⟩ => ⟨S4x1, .f32⟩
  | .hbm, ⟨11, _⟩ => ⟨S4, .f32⟩
  | .hbm, ⟨12, _⟩ => ⟨S4, .f32⟩
  | .hbm, ⟨13, _⟩ => ⟨S1x2, .f32⟩
  | .hbm, ⟨14, _⟩ => ⟨S1, .f32⟩
  | .hbm, ⟨15, _⟩ => ⟨S1x4, .f32⟩
  | .hbm, ⟨16, _⟩ => ⟨S200x18, .f32⟩
  | .hbm, ⟨17, _⟩ => ⟨S_, .f32⟩
  | .hbm, ⟨18, _⟩ => ⟨S140x1, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S_, .f32⟩
  | .hbm, ⟨25, _⟩ => ⟨S140x1, .f32⟩
  | .hbm, ⟨26, _⟩ => ⟨S140x1, .f32⟩
  | .hbm, ⟨27, _⟩ => ⟨S140x2, .f32⟩
  | .hbm, ⟨28, _⟩ => ⟨S1x1, .f32⟩
  | .hbm, ⟨29, _⟩ => ⟨S18x4, .f32⟩
  | .hbm, ⟨30, _⟩ => ⟨S18x4, .f32⟩
  | .hbm, ⟨31, _⟩ => ⟨S18x4, .f32⟩
  | .hbm, ⟨32, _⟩ => ⟨S1x4, .f32⟩
  | .hbm, ⟨33, _⟩ => ⟨S1x4, .f32⟩
  | .hbm, ⟨34, _⟩ => ⟨S4, .f32⟩
  | .hbm, ⟨35, _⟩ => ⟨S1x4, .f32⟩
  | .hbm, ⟨36, _⟩ => ⟨S1x4, .f32⟩
  | .hbm, ⟨37, _⟩ => ⟨S1x4, .f32⟩
  | .hbm, ⟨38, _⟩ => ⟨S1x4, .f32⟩
  | .hbm, ⟨39, _⟩ => ⟨S1x4, .f32⟩
  | .hbm, ⟨40, _⟩ => ⟨S1x4, .f32⟩
  | .hbm, ⟨41, _⟩ => ⟨S4, .f32⟩
  | .hbm, ⟨42, _⟩ => ⟨S1x4, .f32⟩
  | .hbm, ⟨43, _⟩ => ⟨S1x4, .f32⟩
  | .hbm, ⟨44, _⟩ => ⟨S1x1, .f32⟩
  | .hbm, ⟨45, _⟩ => ⟨S1x1, .f32⟩
  | .local _ .vmem, ⟨0, _⟩ => ⟨S140x2, .f32⟩
  | .local _ .vmem, ⟨1, _⟩ => ⟨S1x1, .f32⟩
  | .local _ .vmem, ⟨2, _⟩ => ⟨S200x18, .f32⟩
  | .local _ .vmem, ⟨3, _⟩ => ⟨S18x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | .local _ .vmem, ⟨7, _⟩ => ⟨S1x4, .f32⟩
  | .local _ .vmem, ⟨8, _⟩ => ⟨S1x4, .f32⟩
  | .local _ .vmem, ⟨9, _⟩ => ⟨S1x2, .f32⟩
  | .local _ .vmem, ⟨10, _⟩ => ⟨S1x1, .f32⟩
  | .local _ .vmem, ⟨11, _⟩ => ⟨S1x1, .f32⟩
  | .local _ .vmem, ⟨12, _⟩ => ⟨S2x10000x140, .f32⟩
  | .local _ .vmem, ⟨13, _⟩ => ⟨S200x4, .f32⟩
  | _, _ => ⟨S100000x140, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_c_1 : Ref sig .tc := ⟨.hbm, 21, rfl⟩
abbrev main_v3 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32_30 : BitVec 32 := 0#32
  let c10_i32 : BitVec 32 := 10#32
  let v29 : BitVec 32 := Scalar.addi c0_i32_30 c10_i32
  let c1_i32 : BitVec 32 := 1#32
  ⟨c0_i32_30, v29, c1_i32⟩
def k0_cond1 (k0_t1 : Fin k0_t1_loop.trips) : BitVec 1 :=
  let c0_i32_30 : BitVec 32 := 0#32
  let c1_i32 : BitVec 32 := 1#32
  let arg16 : BitVec 32 := Scf.iv c0_i32_30 c1_i32 k0_t1
  let c1_i32_45 : BitVec 32 := 1#32
  let v72 : BitVec 32 := Scalar.addi arg16 c1_i32_45
  let c10_i32_46 : BitVec 32 := 10#32
  let v73 : BitVec 1 := Scalar.cmpi .slt v72 c10_i32_46
  let v74 : BitVec 32 := Scalar.extui v73
  let c0_i32_47 : BitVec 32 := 0#32
  let v75 : BitVec 1 := Scalar.cmpi .ne v74 c0_i32_47
  v75

def k0_off1 (k0_t1 : Fin k0_t1_loop.trips) : Fin 1 → Nat :=
  let c1_i32_143 : BitVec 32 := 1#32
  let c0_i32_30 : BitVec 32 := 0#32
  let c1_i32 : BitVec 32 := 1#32
  let arg16 : BitVec 32 := Scf.iv c0_i32_30 c1_i32 k0_t1
  let c2_i32 : BitVec 32 := 2#32
  let v71 : BitVec 32 := Scalar.remsi arg16 c2_i32
  let v1368 : BitVec 32 := Scalar.subi c1_i32_143 v71
  ![v1368.toNat]
def k0_off2 (k0_t1 : Fin k0_t1_loop.trips) : Fin 3 → Nat :=
  let c1_i32_143 : BitVec 32 := 1#32
  let c0_i32_30 : BitVec 32 := 0#32
  let c1_i32 : BitVec 32 := 1#32
  let arg16 : BitVec 32 := Scf.iv c0_i32_30 c1_i32 k0_t1
  let c2_i32 : BitVec 32 := 2#32
  let v71 : BitVec 32 := Scalar.remsi arg16 c2_i32
  let v1368 : BitVec 32 := Scalar.subi c1_i32_143 v71
  let c0_i32_145 : BitVec 32 := 0#32
  let c0_i32_146 : BitVec 32 := 0#32
  ![v1368.toNat, 0, 0]
def k0_off3 (k0_t1 : Fin k0_t1_loop.trips) : Fin 2 → Nat :=
  let c0_i32_30 : BitVec 32 := 0#32
  let c1_i32 : BitVec 32 := 1#32
  let arg16 : BitVec 32 := Scf.iv c0_i32_30 c1_i32 k0_t1
  let c1_i32_142 : BitVec 32 := 1#32
  let v1367 : BitVec 32 := Scalar.addi arg16 c1_i32_142
  let c10000_i32_144 : BitVec 32 := 10000#32
  let v1369 : BitVec 32 := Scalar.muli v1367 c10000_i32_144
  let c0_i32_147 : BitVec 32 := 0#32
  ![v1369.toNat, 0]
def k0_off4 (k0_t1 : Fin k0_t1_loop.trips) : Fin 2 → Nat :=
  let c0_i32_30 : BitVec 32 := 0#32
  let c1_i32 : BitVec 32 := 1#32
  let arg16 : BitVec 32 := Scf.iv c0_i32_30 c1_i32 k0_t1
  let c20_i32 : BitVec 32 := 20#32
  let v76 : BitVec 32 := Scalar.muli arg16 c20_i32
  let v77 : Index := Scalar.indexCast v76
  let c0_48 : Index := 0#32
  ![v77.toNat, 0]
def k0_off5 (k0_t1 : Fin k0_t1_loop.trips) : Fin 1 → Nat :=
  let c0_i32_30 : BitVec 32 := 0#32
  let c1_i32 : BitVec 32 := 1#32
  let arg16 : BitVec 32 := Scf.iv c0_i32_30 c1_i32 k0_t1
  let c2_i32 : BitVec 32 := 2#32
  let v71 : BitVec 32 := Scalar.remsi arg16 c2_i32
  ![v71.toNat]
def k0_off6 (k0_t1 : Fin k0_t1_loop.trips) : Fin 3 → Nat :=
  let c0_i32_30 : BitVec 32 := 0#32
  let c1_i32 : BitVec 32 := 1#32
  let arg16 : BitVec 32 := Scf.iv c0_i32_30 c1_i32 k0_t1
  let c2_i32 : BitVec 32 := 2#32
  let v71 : BitVec 32 := Scalar.remsi arg16 c2_i32
  let c0_i32_133 : BitVec 32 := 0#32
  let c0_i32_134 : BitVec 32 := 0#32
  ![v71.toNat, 0, 0]
def k0_off7 (k0_t1 : Fin k0_t1_loop.trips) : Fin 2 → Nat :=
  let c0_i32_30 : BitVec 32 := 0#32
  let c1_i32 : BitVec 32 := 1#32
  let arg16 : BitVec 32 := Scf.iv c0_i32_30 c1_i32 k0_t1
  let c10000_i32 : BitVec 32 := 10000#32
  let v1339 : BitVec 32 := Scalar.muli arg16 c10000_i32
  let c0_i32_135 : BitVec 32 := 0#32
  ![v1339.toNat, 0]
def k0_off8 (k0_t1 : Fin k0_t1_loop.trips) : Fin 3 → Nat :=
  let c0_i32_30 : BitVec 32 := 0#32
  let c1_i32 : BitVec 32 := 1#32
  let arg16 : BitVec 32 := Scf.iv c0_i32_30 c1_i32 k0_t1
  let c2_i32 : BitVec 32 := 2#32
  let v71 : BitVec 32 := Scalar.remsi arg16 c2_i32
  let v1345 : Index := Scalar.indexCast v71
  let c0_136 : Index := 0#32
  let c0_137 : Index := 0#32
  ![v1345.toNat, 0, 0]
abbrev stage0_0 : Fin 1 → Memref sig .tc .vmem S140x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelIdeal.lean ====
variable {F : FTy → Type} [FloatOps F] [Named F]
def κ : String → Option EReal := fun
  | "inv_n" => some ((1 / 100000 : ℝ) : EReal)
  | _ => none
-- ==== ReferenceIdeal.lean ====
abbrev S100000x140 : Shape := ⟨2, ![100000, 140]⟩
abbrev S2x100000 : Shape := ⟨2, ![2, 100000]⟩
abbrev S1x200x18 : Shape := ⟨3, ![1, 200, 18]⟩
abbrev S1x140 : Shape := ⟨2, ![1, 140]⟩
abbrev S1 : Shape := ⟨1, ![1]⟩
abbrev S4x18 : Shape := ⟨2, ![4, 18]⟩
abbrev S4x1 : Shape := ⟨2, ![4, 1]⟩
abbrev S4 : Shape := ⟨1, ![4]⟩
abbrev S1x2 : Shape := ⟨2, ![1, 2]⟩
abbrev S140x1 : Shape := ⟨2, ![140, 1]⟩
abbrev S100000x1 : Shape := ⟨2, ![100000, 1]⟩
abbrev S1x1 : Shape := ⟨2, ![1, 1]⟩
abbrev S_ : Shape := ⟨0, ![]⟩
abbrev S1x100000 : Shape := ⟨2, ![1, 100000]⟩
abbrev S100000 : Shape := ⟨1, ![100000]⟩
abbrev S100000x2 : Shape := ⟨2, ![100000, 2]⟩
abbrev S200x1x18 : Shape := ⟨3, ![200, 1, 18]⟩
abbrev S200x1x1 : Shape := ⟨3, ![200, 1, 1]⟩
abbrev S1x1x18 : Shape := ⟨3, ![1, 1, 18]⟩
abbrev S1x18 : Shape := ⟨2, ![1, 18]⟩
abbrev S18x4 : Shape := ⟨2, ![18, 4]⟩
abbrev S1x4 : Shape := ⟨2, ![1, 4]⟩
abbrev S1x1x1 : Shape := ⟨3, ![1, 1, 1]⟩
abbrev S1x200x1 : Shape := ⟨3, ![1, 200, 1]⟩
abbrev S2x1 : Shape := ⟨2, ![2, 1]⟩

abbrev nBuf : Space → Nat
  | .hbm => 200
  | .vmem => 0
  | .smem => 0
  | _ => 0

abbrev hbmTy0_0 (i : Nat) : BufTy := match i % 128 with
  | 0 => ⟨S100000x140, .f32⟩
  | 1 => ⟨S2x100000, .i32⟩
  | 2 => ⟨S1x200x18, .f32⟩
  | 3 => ⟨S1x140, .f32⟩
  | 4 => ⟨S1, .f32⟩
  | 5 => ⟨S4x18, .f32⟩
  | 6 => ⟨S4x1, .f32⟩
  | 7 => ⟨S4, .f32⟩
  | 8 => ⟨S4, .f32⟩
  | 9 => ⟨S4x1, .f32⟩
  | 10 => ⟨S4x1, .f32⟩
  | 11 => ⟨S4, .f32⟩
  | 12 => ⟨S4, .f32⟩
  | 13 => ⟨S1x2, .f32⟩
  | 14 => ⟨S1, .f32⟩
  | 15 => ⟨S140x1, .f32⟩
  | 16 => ⟨S100000x1, .f32⟩
  | 17 => ⟨S1x1, .f32⟩
  | 18 => ⟨S100000x1, .f32⟩
  | 19 => ⟨S100000x1, .f32⟩
  | 20 => ⟨S_, .f32⟩
  | 21 => ⟨S100000x1, .f32⟩
  | 22 => ⟨S100000x1, .f32⟩
  | 23 => ⟨S1x100000, .i32⟩
  | 24 => ⟨S100000, .i32⟩
  | 25 => ⟨S100000x1, .f32⟩
  | 26 => ⟨S100000, .f32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S_, .i32⟩
  | 35 => ⟨S100000, .i32⟩
  | 36 => ⟨S100000, .i32⟩
  | 37 => ⟨S100000x1, .i32⟩
  | 38 => ⟨S100000x1, .i32⟩
  | 39 => ⟨S100000x2, .i32⟩
  | 40 => ⟨S100000x1, .f32⟩
  | 41 => ⟨S_, .f32⟩
  | 42 => ⟨S1, .f32⟩
  | 43 => ⟨S_, .f32⟩
  | 44 => ⟨S1, .f32⟩
  | 45 => ⟨S1, .f32⟩
  | 46 => ⟨S1x1, .f32⟩
  | 47 => ⟨S_, .f32⟩
  | 48 => ⟨S1x1, .f32⟩
  | 49 => ⟨S_, .f32⟩
  | 50 => ⟨S1x1, .f32⟩
  | 51 => ⟨S200x1x18, .f32⟩
  | 52 => ⟨S_, .f32⟩
  | 53 => ⟨S200x1x1, .f32⟩
  | 54 => ⟨S_, .i32⟩
  | 55 => ⟨S200x1x18, .f32⟩
  | 56 => ⟨S4x18, .f32⟩
  | 57 => ⟨S4, .f32⟩
  | 58 => ⟨S4x1, .f32⟩
  | 59 => ⟨S4, .f32⟩
  | 60 => ⟨S_, .i32⟩
  | 61 => ⟨S1x1, .f32⟩
  | 62 => ⟨S1x1, .f32⟩
  | 63 => ⟨S200x1x1, .f32⟩
  | 64 => ⟨S_, .i32⟩
  | 65 => ⟨S_, .i1⟩
  | 66 => ⟨S_, .i32⟩
  | 67 => ⟨S_, .i32⟩
  | 68 => ⟨S1x1x18, .f32⟩
  | 69 => ⟨S1x18, .f32⟩
  | 70 => ⟨S18x4, .f32⟩
  | 71 => ⟨S1x4, .f32⟩
  | 72 => ⟨S1x4, .f32⟩
  | 73 => ⟨S1x4, .f32⟩
  | 74 => ⟨S1x4, .f32⟩
  | 75 => ⟨S1x4, .f32⟩
  | 76 => ⟨S1x4, .f32⟩
  | 77 => ⟨S1x4, .f32⟩
  | 78 => ⟨S1x4, .f32⟩
  | 79 => ⟨S1x1, .f32⟩
  | 80 => ⟨S1x1, .f32⟩
  | 81 => ⟨S1x1, .f32⟩
  | 82 => ⟨S1x1, .f32⟩
  | 83 => ⟨S1x1, .f32⟩
  | 84 => ⟨S1x1, .f32⟩
  | 85 => ⟨S_, .f32⟩
  | 86 => ⟨S1x1, .f32⟩
  | 87 => ⟨S1x1, .f32⟩
  | 88 => ⟨S_, .f32⟩
  | 89 => ⟨S1x1, .f32⟩
  | 90 => ⟨S1x1, .f32⟩
  | 91 => ⟨S1x1, .f32⟩
  | 92 => ⟨S1x1, .f32⟩
  | 93 => ⟨S_, .f32⟩
  | 94 => ⟨S1x1, .f32⟩
  | 95 => ⟨S1x1, .f32⟩
  | 96 => ⟨S_, .f32⟩
  | 97 => ⟨S1x1, .f32⟩
  | 98 => ⟨S1x1, .f32⟩
  | 99 => ⟨S1x1, .f32⟩
  | 100 => ⟨S1x1, .f32⟩
  | 101 => ⟨S1x1, .f32⟩
  | 102 => ⟨S_, .f32⟩
  | 103 => ⟨S1x1, .f32⟩
  | 104 => ⟨S1x1, .f32⟩
  | 105 => ⟨S_, .f32⟩
  | 106 => ⟨S1x1, .f32⟩
  | 107 => ⟨S1x1, .f32⟩
  | 108 => ⟨S1x1, .f32⟩
  | 109 => ⟨S1x1, .f32⟩
  | 110 => ⟨S1x1, .f32⟩
  | 111 => ⟨S1x1, .f32⟩
  | 112 => ⟨S1x1, .f32⟩
  | 113 => ⟨S1x1x1, .f32⟩
  | 114 => ⟨S_, .i32⟩
  | 115 => ⟨S_, .i32⟩
  | 116 => ⟨S200x1x1, .f32⟩
  | 117 => ⟨S_, .i32⟩
  | 118 => ⟨S_, .i32⟩
  | 119 => ⟨S1x200x1, .f32⟩
  | 120 => ⟨S_, .f32⟩
  | 121 => ⟨S1x1, .f32⟩
  | 122 => ⟨S_, .f32⟩
  | 123 => ⟨S1x1, .f32⟩
  | 124 => ⟨S200x1x1, .f32⟩
  | 125 => ⟨S_, .f32⟩
  | 126 => ⟨S200x1x1, .f32⟩
  | 127 => ⟨S_, .i32⟩
  | _ => ⟨S100000x140, .f32⟩

abbrev hbmTy0_1 (i : Nat) : BufTy := match i % 128 with
  | 0 => ⟨S200x1x1, .f32⟩
  | 1 => ⟨S4x1, .f32⟩
  | 2 => ⟨S4, .f32⟩
  | 3 => ⟨S4x1, .f32⟩
  | 4 => ⟨S4, .f32⟩
  | 5 => ⟨S_, .i32⟩
  | 6 => ⟨S1x1, .f32⟩
  | 7 => ⟨S1x1, .f32⟩
  | 8 => ⟨S200x1x1, .f32⟩
  | 9 => ⟨S_, .i32⟩
  | 10 => ⟨S_, .i1⟩
  | 11 => ⟨S_, .i32⟩
  | 12 => ⟨S_, .i32⟩
  | 13 => ⟨S1x1x1, .f32⟩
  | 14 => ⟨S1x1, .f32⟩
  | 15 => ⟨S1x4, .f32⟩
  | 16 => ⟨S1x4, .f32⟩
  | 17 => ⟨S1x4, .f32⟩
  | 18 => ⟨S1x4, .f32⟩
  | 19 => ⟨S1x4, .f32⟩
  | 20 => ⟨S1x4, .f32⟩
  | 21 => ⟨S1x4, .f32⟩
  | 22 => ⟨S1x4, .f32⟩
  | 23 => ⟨S1x4, .f32⟩
  | 24 => ⟨S1x1, .f32⟩
  | 25 => ⟨S1x1, .f32⟩
  | 26 => ⟨S1x1, .f32⟩
  | 27 => ⟨S1x1, .f32⟩
  | 28 => ⟨S1x1, .f32⟩
  | 29 => ⟨S1x1, .f32⟩
  | 30 => ⟨S_, .f32⟩
  | 31 => ⟨S1x1, .f32⟩
  | 32 => ⟨S1x1, .f32⟩
  | 33 => ⟨S_, .f32⟩
  | 34 => ⟨S1x1, .f32⟩
  | 35 => ⟨S1x1, .f32⟩
  | 36 => ⟨S1x1, .f32⟩
  | 37 => ⟨S1x1, .f32⟩
  | 38 => ⟨S_, .f32⟩
  | 39 => ⟨S1x1, .f32⟩
  | 40 => ⟨S1x1, .f32⟩
  | 41 => ⟨S_, .f32⟩
  | 42 => ⟨S1x1, .f32⟩
  | 43 => ⟨S1x1, .f32⟩
  | 44 => ⟨S1x1, .f32⟩
  | 45 => ⟨S1x1, .f32⟩
  | 46 => ⟨S1x1, .f32⟩
  | 47 => ⟨S_, .f32⟩
  | 48 => ⟨S1x1, .f32⟩
  | 49 => ⟨S1x1, .f32⟩
  | 50 => ⟨S_, .f32⟩
  | 51 => ⟨S1x1, .f32⟩
  | 52 => ⟨S1x1, .f32⟩
  | 53 => ⟨S1x1, .f32⟩
  | 54 => ⟨S1x1, .f32⟩
  | 55 => ⟨S1x1, .f32⟩
  | 56 => ⟨S1x1, .f32⟩
  | 57 => ⟨S1x1, .f32⟩
  | 58 => ⟨S1x1x1, .f32⟩
  | 59 => ⟨S_, .i32⟩
  | 60 => ⟨S_, .i32⟩
  | 61 => ⟨S200x1x1, .f32⟩
  | 62 => ⟨S_, .i32⟩
  | 63 => ⟨S_, .i32⟩
  | 64 => ⟨S1x200x1, .f32⟩
  | 65 => ⟨S1x1x1, .f32⟩
  | 66 => ⟨S1x1, .f32⟩
  | 67 => ⟨S1x2, .f32⟩
  | 68 => ⟨S2x1, .f32⟩
  | 69 => ⟨S1x1, .f32⟩
  | 70 => ⟨S1x1, .f32⟩
  | 71 => ⟨S1x1, .f32⟩
  | _ => ⟨S100000x140, .f32⟩

abbrev hbmTy (i : Nat) : BufTy := match i / 128 with
  | 0 => hbmTy0_0 i
  | 1 => hbmTy0_1 i
  | _ => ⟨S100000x140, .f32⟩

abbrev bufTy : (tb : Table) → Fin (tcTables nBuf tb) → BufTy
  | .hbm, ⟨i, _⟩ => hbmTy i
  | _, _ => ⟨S100000x140, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_c_6 : Ref sig .tc := ⟨.hbm, 54, rfl⟩
abbrev main_v29_0 : Ref sig .tc := ⟨.hbm, 55, rfl⟩
abbrev main_v29_1 : Ref sig .tc := ⟨.hbm, 56, rfl⟩
abbrev main_v29_2 : Ref sig .tc := ⟨.hbm, 57, rfl⟩
abbrev main_v29_3 : Ref sig .tc := ⟨.hbm, 58, rfl⟩
abbrev main_v29_4 : Ref sig .tc := ⟨.hbm, 59, rfl⟩
abbrev main_v29_5 : Ref sig .tc := ⟨.hbm, 60, rfl⟩
abbrev main_v29_6 : Ref sig .tc := ⟨.hbm, 61, rfl⟩
abbrev main_v29_7 : Ref sig .tc := ⟨.hbm, 62, rfl⟩
abbrev main_v29_8 : Ref sig .tc := ⟨.hbm, 63, rfl⟩
abbrev main_while0c_c_19 : Ref sig .tc := ⟨.hbm, 64, rfl⟩
abbrev main_while0c_v44 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_v0 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_v53 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_cst_19 : Ref sig .tc := ⟨.hbm, 85, rfl⟩
abbrev main_while0b_v60 : Ref sig .tc := ⟨.hbm, 86, rfl⟩
abbrev main_while0b_v61 : Ref sig .tc := ⟨.hbm, 87, rfl⟩
abbrev main_while0b_cst_20 : Ref sig .tc := ⟨.hbm, 88, rfl⟩
abbrev main_while0b_v62 : Ref sig .tc := ⟨.hbm, 89, rfl⟩
abbrev main_while0b_v63 : Ref sig .tc := ⟨.hbm, 90, rfl⟩
abbrev main_while0b_v64 : Ref sig .tc := ⟨.hbm, 91, rfl⟩
abbrev main_while0b_v65 : Ref sig .tc := ⟨.hbm, 92, rfl⟩
abbrev main_while0b_cst_21 : Ref sig .tc := ⟨.hbm, 93, rfl⟩
abbrev main_while0b_v66 : Ref sig .tc := ⟨.hbm, 94, rfl⟩
abbrev main_while0b_v67 : Ref sig .tc := ⟨.hbm, 95, rfl⟩
abbrev main_while0b_cst_22 : Ref sig .tc := ⟨.hbm, 96, rfl⟩
abbrev main_while0b_v68 : Ref sig .tc := ⟨.hbm, 97, rfl⟩
abbrev main_while0b_v69 : Ref sig .tc := ⟨.hbm, 98, rfl⟩
abbrev main_while0b_v70 : Ref sig .tc := ⟨.hbm, 99, rfl⟩
abbrev main_while0b_v71 : Ref sig .tc := ⟨.hbm, 100, rfl⟩
abbrev main_while0b_v72 : Ref sig .tc := ⟨.hbm, 101, rfl⟩
abbrev main_while0b_cst_23 : Ref sig .tc := ⟨.hbm, 102, rfl⟩
abbrev main_while0b_v73 : Ref sig .tc := ⟨.hbm, 103, rfl⟩
abbrev main_while0b_v74 : Ref sig .tc := ⟨.hbm, 104, rfl⟩
abbrev main_while0b_cst_24 : Ref sig .tc := ⟨.hbm, 105, rfl⟩
abbrev main_while0b_v75 : Ref sig .tc := ⟨.hbm, 106, rfl⟩
abbrev main_while0b_v76 : Ref sig .tc := ⟨.hbm, 107, rfl⟩
abbrev main_while0b_v77 : Ref sig .tc := ⟨.hbm, 108, rfl⟩
abbrev main_while0b_v78 : Ref sig .tc := ⟨.hbm, 109, rfl⟩
abbrev main_while0b_v79 : Ref sig .tc := ⟨.hbm, 110, rfl⟩
abbrev main_while0b_v80 : Ref sig .tc := ⟨.hbm, 111, rfl⟩
abbrev main_while0b_v81 : Ref sig .tc := ⟨.hbm, 112, rfl⟩
abbrev main_while0b_call2_v0 : Ref sig .tc := ⟨.hbm, 113, rfl⟩
abbrev main_while0b_call2_c : Ref sig .tc := ⟨.hbm, 114, rfl⟩
abbrev main_while0b_call2_c_0 : Ref sig .tc := ⟨.hbm, 115, rfl⟩
abbrev main_while0b_v82 : Ref sig .tc := ⟨.hbm, 116, rfl⟩
abbrev main_while0b_c_25 : Ref sig .tc := ⟨.hbm, 117, rfl⟩
abbrev main_while0b_v83 : Ref sig .tc := ⟨.hbm, 118, rfl⟩
abbrev main_v30 : Ref sig .tc := ⟨.hbm, 119, rfl⟩
abbrev main_cst_7 : Ref sig .tc := ⟨.hbm, 120, rfl⟩
abbrev main_v31 : Ref sig .tc := ⟨.hbm, 121, rfl⟩
abbrev main_cst_8 : Ref sig .tc := ⟨.hbm, 122, rfl⟩
abbrev main_v32 : Ref sig .tc := ⟨.hbm, 123, rfl⟩
abbrev main_v33 : Ref sig .tc := ⟨.hbm, 124, rfl⟩
abbrev main_cst_9 : Ref sig .tc := ⟨.hbm, 125, rfl⟩
abbrev main_v34 : Ref sig .tc := ⟨.hbm, 126, rfl⟩
abbrev main_c_10 : Ref sig .tc := ⟨.hbm, 127, rfl⟩
abbrev main_v35_0 : Ref sig .tc := ⟨.hbm, 128, rfl⟩
abbrev main_v35_1 : Ref sig .tc := ⟨.hbm, 129, rfl⟩
abbrev main_v35_2 : Ref sig .tc := ⟨.hbm, 130, rfl⟩
abbrev main_v35_3 : Ref sig .tc := ⟨.hbm, 131, rfl⟩
abbrev main_v35_4 : Ref sig .tc := ⟨.hbm, 132, rfl⟩
abbrev main_v35_5 : Ref sig .tc := ⟨.hbm, 133, rfl⟩
abbrev main_v35_6 : Ref sig .tc := ⟨.hbm, 134, rfl⟩
abbrev main_v35_7 : Ref sig .tc := ⟨.hbm, 135, rfl⟩
abbrev main_v35_8 : Ref sig .tc := ⟨.hbm, 136, rfl⟩
abbrev main_while1c_c_19 : Ref sig .tc := ⟨.hbm, 137, rfl⟩
abbrev main_while1c_v44 : Ref sig .tc := ⟨.hbm, 138, rfl⟩
abbrev main_while1b_call3_c : Ref sig .tc := ⟨.hbm, 139, rfl⟩
abbrev main_while1b_call3_c_0 : Ref sig .tc := ⟨.hbm, 140, rfl⟩
abbrev main_while1b_call3_v0 : Ref sig .tc := ⟨.hbm, 141, rfl⟩
abbrev main_while1b_v44 : Ref sig .tc := ⟨.hbm, 142, rfl⟩
abbrev main_while1b_v45 : Ref sig .tc := ⟨.hbm, 143, rfl⟩
abbrev main_while1b_v46 : Ref sig .tc := ⟨.hbm, 144, rfl⟩
abbrev main_while1b_v47 : Ref sig .tc := ⟨.hbm, 145, rfl⟩
abbrev main_while1b_v48 : Ref sig .tc := ⟨.hbm, 146, rfl⟩
abbrev main_while1b_v49 : Ref sig .tc := ⟨.hbm, 147, rfl⟩
abbrev main_while1b_v50 : Ref sig .tc := ⟨.hbm, 148, rfl⟩
abbrev main_while1b_v51 : Ref sig .tc := ⟨.hbm, 149, rfl⟩
abbrev main_while1b_v52 : Ref sig .tc := ⟨.hbm, 150, rfl⟩
abbrev main_while1b_v53 : Ref sig .tc := ⟨.hbm, 151, rfl⟩
abbrev main_while1b_v54 : Ref sig .tc := ⟨.hbm, 152, rfl⟩
abbrev main_while1b_v55 : Ref sig .tc := ⟨.hbm, 153, rfl⟩
abbrev main_while1b_v56 : Ref sig .tc := ⟨.hbm, 154, rfl⟩
abbrev main_while1b_v57 : Ref sig .tc := ⟨.hbm, 155, rfl⟩
abbrev main_while1b_v58 : Ref sig .tc := ⟨.hbm, 156, rfl⟩
abbrev main_while1b_v59 : Ref sig .tc := ⟨.hbm, 157, rfl⟩
abbrev main_while1b_cst_19 : Ref sig .tc := ⟨.hbm, 158, rfl⟩
abbrev main_while1b_v60 : Ref sig .tc := ⟨.hbm, 159, rfl⟩
abbrev main_while1b_v61 : Ref sig .tc := ⟨.hbm, 160, rfl⟩
abbrev main_while1b_cst_20 : Ref sig .tc := ⟨.hbm, 161, rfl⟩
abbrev main_while1b_v62 : Ref sig .tc := ⟨.hbm, 162, rfl⟩
abbrev main_while1b_v63 : Ref sig .tc := ⟨.hbm, 163, rfl⟩
abbrev main_while1b_v64 : Ref sig .tc := ⟨.hbm, 164, rfl⟩
abbrev main_while1b_v65 : Ref sig .tc := ⟨.hbm, 165, rfl⟩
abbrev main_while1b_cst_21 : Ref sig .tc := ⟨.hbm, 166, rfl⟩
abbrev main_while1b_v66 : Ref sig .tc := ⟨.hbm, 167, rfl⟩
abbrev main_while1b_v67 : Ref sig .tc := ⟨.hbm, 168, rfl⟩
abbrev main_while1b_cst_22 : Ref sig .tc := ⟨.hbm, 169, rfl⟩
abbrev main_while1b_v68 : Ref sig .tc := ⟨.hbm, 170, rfl⟩
abbrev main_while1b_v69 : Ref sig .tc := ⟨.hbm, 171, rfl⟩
abbrev main_while1b_v70 : Ref sig .tc := ⟨.hbm, 172, rfl⟩
abbrev main_while1b_v71 : Ref sig .tc := ⟨.hbm, 173, rfl⟩
abbrev main_while1b_v72 : Ref sig .tc := ⟨.hbm, 174, rfl⟩
abbrev main_while1b_cst_23 : Ref sig .tc := ⟨.hbm, 175, rfl⟩
abbrev main_while1b_v73 : Ref sig .tc := ⟨.hbm, 176, rfl⟩
abbrev main_while1b_v74 : Ref sig .tc := ⟨.hbm, 177, rfl⟩
abbrev main_while1b_cst_24 : Ref sig .tc := ⟨.hbm, 178, rfl⟩
abbrev main_while1b_v75 : Ref sig .tc := ⟨.hbm, 179, rfl⟩
abbrev main_while1b_v76 : Ref sig .tc := ⟨.hbm, 180, rfl⟩
abbrev main_while1b_v77 : Ref sig .tc := ⟨.hbm, 181, rfl⟩
abbrev main_while1b_v78 : Ref sig .tc := ⟨.hbm, 182, rfl⟩
abbrev main_while1b_v79 : Ref sig .tc := ⟨.hbm, 183, rfl⟩
abbrev main_while1b_v80 : Ref sig .tc := ⟨.hbm, 184, rfl⟩
abbrev main_while1b_v81 : Ref sig .tc := ⟨.hbm, 185, rfl⟩
abbrev main_while1b_call4_v0 : Ref sig .tc := ⟨.hbm, 186, rfl⟩
abbrev main_while1b_call4_c : Ref sig .tc := ⟨.hbm, 187, rfl⟩
abbrev main_while1b_call4_c_0 : Ref sig .tc := ⟨.hbm, 188, rfl⟩
abbrev main_while1b_v82 : Ref sig .tc := ⟨.hbm, 189, rfl⟩
abbrev main_while1b_c_25 : Ref sig .tc := ⟨.hbm, 190, rfl⟩
abbrev main_while1b_v83 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_v39 : Ref sig .tc := ⟨.hbm, 195, rfl⟩
abbrev main_v40 : Ref sig .tc := ⟨.hbm, 196, rfl⟩
abbrev main_v41 : Ref sig .tc := ⟨.hbm, 197, rfl⟩
abbrev main_v42 : Ref sig .tc := ⟨.hbm, 198, rfl⟩
abbrev main_v43 : Ref sig .tc := ⟨.hbm, 199, rfl⟩

abbrev nD : Nat := 1
abbrev τ : Topo := Topo.v7x

variable {F : FTy → Type} [FloatOps F]

abbrev main_while0_count : Scf.Loop 32 := ⟨0#32, 200#32, 1#32⟩

abbrev main_while1_count : Scf.Loop 32 := ⟨0#32, 200#32, 1#32⟩
-- ==== Proof.Names.lean ====
/-
  Names for the pieces of the kernel's double buffer, generic in the float values: the ten blocks of 10000 rows of the
  first operand, the two slots of the row buffer, the two transfer semaphores, and the equations that rewrite the
  kernel's own computed slices to these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.Proof.Ker

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources: the staging pipeline's, beside the counters of the kernel's own transfers. -/
abbrev UU (nD : Nat) (τ : Topo) : Type := UR sig nD τ × Counters
local notation "𝕄" => MT nD τ sig Unit (Elt F) ℕ (UU nD τ) ℕ
abbrev 𝒱₀ : Variants := Variants.none

/-- The node features, all rows. -/
abbrev xM : Memref sig .tc .hbm S100000x140 .f32 := Memref.whole main_arg0
/-- The row buffer, both slots. -/
abbrev bufM : Memref sig .tc .vmem S2x10000x140 .f32 := Memref.whole cc0_scratch0
/-- The layer-0 gate inputs of all steps. -/
abbrev gM : Memref sig .tc .vmem S200x4 .f32 := Memref.whole cc0_scratch1

abbrev blkOff (b : Fin 10) : Fin 2 → Nat := ![10000 * b.val, 0]
/-- Block `b` lies inside the rows. -/
theorem blkOff_inb (b : Fin 10) : ∀ a, blkOff b a + S10000x140.size a ≤ S100000x140.size a := by
  have := b.isLt; intro a; fin_cases a
  · show 10000 * b.val + 10000 ≤ 100000; omega
  · show 0 + 140 ≤ 140; omega
abbrev slotOff (s : Fin 2) : Fin 3 → Nat := ![s.val, 0, 0]
/-- Slot `s` lies inside the row buffer. -/
theorem slotOff_inb (s : Fin 2) : ∀ a, slotOff s a + S1x10000x140.size a ≤ S2x10000x140.size a := by
  have := s.isLt; intro a; fin_cases a
  · show s.val + 1 ≤ 2; omega
  · show 0 + 10000 ≤ 10000; omega
  · show 0 + 140 ≤ 140; omega
abbrev semOff (s : Fin 2) : Fin 1 → Nat := ![s.val]
/-- Semaphore `s` lies inside the array of two. -/
theorem semOff_inb (s : Fin 2) : ∀ a, semOff s a + S1.size a ≤ S2.size a := by
  have := s.isLt; intro a; fin_cases a; show s.val + 1 ≤ 2; omega

/-- Block `b` of the rows. -/
def blk (b : Fin 10) : Memref sig .tc .hbm S10000x140 .f32 :=
  xM.slice (Rect.unit (s := S100000x140) (blkOff b) S10000x140.size (blkOff_inb b)) (fun _ => rfl)
/-- Slot `s` of the row buffer. -/
def rslot (s : Fin 2) : Memref sig .tc .vmem S10000x140 .f32 :=
  (bufM.slice (Rect.unit (s := S2x10000x140) (slotOff s) S1x10000x140.size (slotOff_inb s)) (fun _ => rfl)).squeeze
    S10000x140 squeezes_S1x10000x140_S10000x140
/-- Slot `s`'s semaphore. -/
def csm (s : Fin 2) : DmaSems sig S_ :=
  (cc0_scratch2.slice (Rect.unit (s := S2) (semOff s) S1.size (semOff_inb s))).squeeze S_ squeezes_S1_S_

instance (s : Fin 2) : ClosedOff (slotOff s) := ⟨slotOff s, rfl⟩
instance (b : Fin 10) : ClosedOff (blkOff b) := ⟨blkOff b, rfl⟩

/-! ## The kernel's computed offsets, by slot and block number -/

/-- The loop runs ten trips. -/
theorem trips_eq : k0_t1_loop.trips = 10 := by decide
theorem off1_eq (k : Fin k0_t1_loop.trips) : k0_off1 k = semOff (Ring.sl 2 (k.val + 1)) := by
  rw [k0_off1_eq]; show ![_] = ![_]; rw [Ring.sl_val]; congr 1; omega
theorem off2_eq (k : Fin k0_t1_loop.trips) : k0_off2 k = slotOff (Ring.sl 2 (k.val + 1)) := by
  rw [k0_off2_eq]; show ![_, 0, 0] = ![_, 0, 0]; rw [Ring.sl_val]; congr 1; omega
theorem off3_eq (k : Fin k0_t1_loop.trips) (h : k.val + 1 < 10) : k0_off3 k = blkOff (Ring.bk 10 (k.val + 1)) := by
  rw [k0_off3_eq]; show ![_, 0] = ![_, 0]; rw [Ring.bk_val h]; congr 1
theorem off5_eq (k : Fin k0_t1_loop.trips) : k0_off5 k = semOff (Ring.sl 2 k.val) := by
  rw [k0_off5_eq]; show ![_] = ![_]; rw [Ring.sl_val]
theorem off6_eq (k : Fin k0_t1_loop.trips) : k0_off6 k = slotOff (Ring.sl 2 k.val) := by
  rw [k0_off6_eq]; show ![_, 0, 0] = ![_, 0, 0]; rw [Ring.sl_val]
theorem off7_eq (k : Fin k0_t1_loop.trips) (h : k.val < 10) : k0_off7 k = blkOff (Ring.bk 10 k.val) := by
  rw [k0_off7_eq]; show ![_, 0] = ![_, 0]; rw [Ring.bk_val h]
theorem off8_eq (k : Fin k0_t1_loop.trips) : k0_off8 k = slotOff (Ring.sl 2 k.val) := by
  rw [k0_off8_eq]; show ![_, 0, 0] = ![_, 0, 0]; rw [Ring.sl_val]
/-- A trip issues the next block exactly when there is one. -/
theorem cond1_eq : ∀ k : Fin k0_t1_loop.trips, k0_cond1 k = if k.val + 1 < 10 then 1#1 else 0#1 := by decide +kernel

theorem csm_congr {off : Fin 1 → Nat} {s : Fin 2} (e : off = semOff s) (hh) :
    (cc0_scratch2.slice (Rect.unit (s := S2) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 2} (e : off = slotOff s) (hh hs) :
    (bufM.slice (Rect.unit (s := S2x10000x140) off S1x10000x140.size hh) hs).squeeze S10000x140 squeezes_S1x10000x140_S10000x140 = rslot s :=
  congrArg (fun M : Memref sig .tc .vmem S1x10000x140 .f32 => M.squeeze S10000x140 squeezes_S1x10000x140_S10000x140) (Memref.slice_unit_congr _ e _ _ _ _)
theorem blk_congr {off : Fin 2 → Nat} {b : Fin 10} (e : off = blkOff b) (hh hs) :
    xM.slice (Rect.unit (s := S100000x140) off S10000x140.size hh) hs = blk b := Memref.slice_unit_congr _ e _ _ _ (fun _ => rfl)

@[sl_canon] theorem semL0 (hh) : (cc0_scratch2.slice (Rect.unit (s := S2) ![0] S1.size hh)).squeeze S_ squeezes_S1_S_ = csm 0 := csm_congr (by decide) _
@[sl_canon] theorem slotL0 (hh hs) : (bufM.slice (Rect.unit (s := S2x10000x140) ![0, 0, 0] S1x10000x140.size hh) hs).squeeze S10000x140 squeezes_S1x10000x140_S10000x140 = rslot 0 := rslot_congr (by decide) _ _
@[sl_canon] theorem blkL0 (hh hs) : xM.slice (Rect.unit (s := S100000x140) ![0, 0] S10000x140.size hh) hs = blk 0 := blk_congr (by decide) _ _
@[sl_canon] theorem semN (k : Fin k0_t1_loop.trips) (hh) :
    (cc0_scratch2.slice (Rect.unit (s := S2) (k0_off1 k) S1.size hh)).squeeze S_ squeezes_S1_S_ = csm (Ring.sl 2 (k.val + 1)) := csm_congr (off1_eq k) _
@[sl_canon] theorem slotN (k : Fin k0_t1_loop.trips) (hh hs) :
    (bufM.slice (Rect.unit (s := S2x10000x140) (k0_off2 k) S1x10000x140.size hh) hs).squeeze S10000x140 squeezes_S1x10000x140_S10000x140 = rslot (Ring.sl 2 (k.val + 1)) := rslot_congr (off2_eq k) _ _
@[sl_canon] theorem blkN (k : Fin k0_t1_loop.trips) (h : k.val + 1 < 10) (hh hs) :
    xM.slice (Rect.unit (s := S100000x140) (k0_off3 k) S10000x140.size hh) hs = blk (Ring.bk 10 (k.val + 1)) := blk_congr (off3_eq k h) _ _
@[sl_canon] theorem semK (k : Fin k0_t1_loop.trips) (hh) :
    (cc0_scratch2.slice (Rect.unit (s := S2) (k0_off5 k) S1.size hh)).squeeze S_ squeezes_S1_S_ = csm (Ring.sl 2 k.val) := csm_congr (off5_eq k) _
@[sl_canon] theorem slotK (k : Fin k0_t1_loop.trips) (hh hs) :
    (bufM.slice (Rect.unit (s := S2x10000x140) (k0_off6 k) S1x10000x140.size hh) hs).squeeze S10000x140 squeezes_S1x10000x140_S10000x140 = rslot (Ring.sl 2 k.val) := rslot_congr (off6_eq k) _ _
@[sl_canon] theorem blkK (k : Fin k0_t1_loop.trips) (h : k.val < 10) (hh hs) :
    xM.slice (Rect.unit (s := S100000x140) (k0_off7 k) S10000x140.size hh) hs = blk (Ring.bk 10 k.val) := blk_congr (off7_eq k h) _ _

instance (k : Fin k0_t1_loop.trips) : ClosedOff (k0_off8 k) := ⟨slotOff (Ring.sl 2 k.val), off8_eq k⟩

/-! ## The pieces held -/

section Pieces
variable (c : Dev nD) (X : Buf (Elt F) (xM.view.loc (c : Thread nD τ)))

/-- Semaphore `s` reads zero. -/
abbrev cellP (s : Fin 2) : sProp 𝕄 := semVal ((c : Thread nD τ), SemLoc.dma (csm s).sem) 0
/-- Slot `s` is held, with contents `f`. -/
abbrev slotP (s : Fin 2) (f : Buf (Elt F) ((rslot s).view.loc (c : Thread nD τ))) : sProp 𝕄 :=
  (rslot s).view.loc (c : Thread nD τ) ↦[(rslot s).view.set]{fullShare} f
/-- Block `b` of the rows is held, with the rows `X`. -/
abbrev homeP (b : Fin 10) : sProp 𝕄 := (blk b).view.loc (c : Thread nD τ) ↦[(blk b).view.set]{fullShare} X
/-- Slot `s` after block `b` has landed in it over `f`. -/
abbrev landed (s : Fin 2) (b : Fin 10) (f : Buf (Elt F) ((rslot s).view.loc (c : Thread nD τ))) : Buf (Elt F) ((rslot s).view.loc (c : Thread nD τ)) :=
  (rslot s).view.writes (Elt F) f [⟨Rect.whole S10000x140, ReadAs.same.apply ((blk b).view.read (Elt F) X)⟩]
end Pieces

end Cert.Proof.Ker

end
-- ==== Proof.Trip.lean ====
/-
  One trip of the kernel's loop, at a symbolic trip number: the next block's transfer issued, twenty LSTM steps, the
  awaited block read and added to the running sum.
-/
module

public import proofs.«01_k».proof.Proof.Names

@[expose] public section

noncomputable section

namespace Cert.Proof.Ker

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section Pieces
variable (c : Dev nD) (X : Buf (Elt F) (xM.view.loc (c : Thread nD τ)))

/-- Slot `s` in flight with block `b`, issued over `f`. -/
abbrev flightP (s : Fin 2) (b : Fin 10) (f : Buf (Elt F) ((rslot s).view.loc (c : Thread nD τ))) : sProp 𝕄 :=
  Transfers.Flight countersEmb (c : Thread nD τ) (SemLoc.dma (csm s).sem) () 320000 iprop(slotP c s (landed c X s b f) ∗ homeP c X b)
/-- Slot `s` free: held at anything, its semaphore at zero. -/
abbrev freeP (s : Fin 2) : sProp 𝕄 := iprop((∃ f, slotP c s f) ∗ cellP c s)
/-- Slot `s` in flight with block `b`. -/
abbrev inflP (s : Fin 2) (b : Fin 10) : sProp 𝕄 := iprop(∃ f, flightP c X s b f)

/-- Before trip `k`, block `k + 1` apart from the other blocks held. -/
theorem homes_here (k : ℕ) (hk : k + 1 < 10) :
    bigSep (Ring.homeSet 1 k) (homeP c X) = iprop(homeP c X (Ring.bk 10 (k + 1)) ∗ bigSep ((Ring.homeSet 1 k).erase (Ring.bk 10 (k + 1))) (homeP c X)) := by
  conv_lhs => rw [Ring.homeSet_out 1 k hk, bigSep_insert (Ring.bkL_not_mem_erase 1 k)]
  rfl
/-- After trip `k`, block `k` beside those. -/
theorem homes_next (k : ℕ) (hk : k + 1 < 10) :
    bigSep (Ring.homeSet 1 (k + 1)) (homeP c X) = iprop(homeP c X (Ring.bk 10 k) ∗ bigSep ((Ring.homeSet 1 k).erase (Ring.bk 10 (k + 1))) (homeP c X)) := by
  conv_lhs => rw [Ring.homeSet_succ 1 k hk, bigSep_insert (Ring.bk_not_mem_erase 1 k (by omega) (by decide))]
  rfl
/-- After the last trip, block `k` beside all the others. -/
theorem homes_last (k : ℕ) (h1 : 10 ≤ k + 1) (hk : k < 10) :
    bigSep (Ring.homeSet 1 (k + 1)) (homeP c X) = iprop(homeP c X (Ring.bk 10 k) ∗ bigSep (Ring.homeSet 1 k) (homeP c X)) := by
  conv_lhs => rw [Ring.homeSet_succ_tail 1 k h1 hk, bigSep_insert (Ring.bk_not_mem_homeSet 1 k hk (by decide))]
  rfl
theorem sl2_add2 (k : ℕ) : Ring.sl 2 (k + 1 + 1) = Ring.sl 2 k := by rw [show k + 1 + 1 = k + 2 from rfl, Ring.sl_add]
end Pieces

section Trip
variable (c : Dev nD) (X : Buf (Elt F) (xM.view.loc (c : Thread nD τ))) (arg14 : Memref sig .tc .vmem S200x4 .f32) (harg14 : arg14.IsWhole) (G : Buf (Elt F) (arg14.view.loc (c : Thread nD τ)))
  (arg1 : Memref sig .tc .vmem S140x2 .f32) (harg1 : arg1.IsWhole) (arg2 : Memref sig .tc .vmem S1x1 .f32) (harg2 : arg2.IsWhole)
  (arg3 : Memref sig .tc .vmem S200x18 .f32) (harg3 : arg3.IsWhole) (arg4 : Memref sig .tc .vmem S18x4 .f32) (harg4 : arg4.IsWhole)
  (arg5 : Memref sig .tc .vmem S1x4 .f32) (harg5 : arg5.IsWhole) (arg6 : Memref sig .tc .vmem S1x4 .f32) (harg6 : arg6.IsWhole)
  (arg7 : Memref sig .tc .vmem S1x4 .f32) (harg7 : arg7.IsWhole) (arg8 : Memref sig .tc .vmem S1x4 .f32) (harg8 : arg8.IsWhole)
  (arg9 : Memref sig .tc .vmem S1x4 .f32) (harg9 : arg9.IsWhole) (arg10 : Memref sig .tc .vmem S1x2 .f32) (harg10 : arg10.IsWhole)
  (arg11 : Memref sig .tc .vmem S1x1 .f32) (harg11 : arg11.IsWhole) (arg12 : Memref sig .tc .vmem S1x1 .f32) (harg12 : arg12.IsWhole)
  (v18 : FVec F S140x2 .f32) (v20 : F .f32) (v22 v24 v26 v28 : FVec F S1x4 .f32) (cst_24 cst_25 : F .f32)

/-- The carried sum and LSTM states. -/
abbrev Acc (F : FTy → Type) : Type := F .f32 × F .f32 × F .f32 × F .f32 × F .f32

/-- What is held before trip `k`: the gate inputs, what the core waits for, the blocks not in flight, and the two slots. -/
def resAt (k : ℕ) : sProp 𝕄 :=
  iprop((arg14.view.loc (c : Thread nD τ) ↦[arg14.view.set]{fullShare} G) ∗ (∃ W, owes (c : Thread nD τ) 0 W)
    ∗ bigSep (Ring.homeSet 1 k) (homeP c X)
    ∗ Ring.roleAt (freeP c (Ring.sl 2 k)) (inflP c X (Ring.sl 2 k)) k ∗ freeP c (Ring.sl 2 (k + 1)))

abbrev tripG (k : Fin k0_t1_loop.trips) (a : Acc F) : Prog (TpuEff nD τ sig (Elt F) Λ₀ .tc) (Acc F) :=
  k0_t1_body (F := F) xM (Memref.isWhole_whole _) arg1 harg1 arg2 harg2 arg3 harg3 arg4 harg4 arg5 harg5 arg6 harg6 arg7 harg7 arg8 harg8
    arg9 harg9 arg10 harg10 arg11 harg11 arg12 harg12 bufM (Memref.isWhole_whole _) arg14 harg14 cc0_scratch2
    v18 v20 v22 v24 v26 v28 cst_24 cst_25 k a

set_option backward.proofsInPublic true in
/-- A trip with a next block: it is issued into the other slot. -/
def tripRun (k : Fin k0_t1_loop.trips) (hk : k.val + 1 < 10) (a : Acc F) :
    { w : Acc F //
      resAt c X arg14 G k ⊢ wp frame (wpE (defs₀ (F := F)) 𝒱₀ (c : Thread nD τ) none) Set.univ
        (tripG arg14 harg14 arg1 harg1 arg2 harg2 arg3 harg3 arg4 harg4 arg5 harg5 arg6 harg6 arg7 harg7 arg8 harg8 arg9 harg9 arg10 harg10 arg11 harg11 arg12 harg12 v18 v20 v22 v24 v26 v28 cst_24 cst_25 k a)
        (fun r => iprop(⌜r = w⌝ ∗ resAt c X arg14 G (k.val + 1))) } := by
  obtain ⟨a1, a2, a3, a4, a5⟩ := a
  refine ⟨?_, ?run⟩
  case run =>
    have hk9 : k.val < 10 := by omega
    have hc : k0_cond1 k = 1#1 := by rw [cond1_eq, if_pos hk]
    unfold resAt
    rw [homes_here c X k.val hk, homes_next c X k.val hk, sl2_add2, Ring.roleAt_of_lt _ _ _ hk9, Ring.roleAt_of_lt _ _ _ hk]
    iintro ⟨HG, ⟨%W, HW⟩, ⟨Hb, Hrest⟩, ⟨%f0, HF0⟩, ⟨%f1, HS⟩, HC⟩
    dsimp only [tripG]
    sl_unfold [k0_t1_body]
    sl_exec_parts
    sl_step
    isplitr; · ipureintro; rfl
    isplitl [HG]; · iexact HG
    isplitl [HW]; · iexists _; iexact HW
    isplitl [HF0_src Hrest]
    · isplitl [HF0_src]; · iexact HF0_src
      iexact Hrest
    isplitl [HC]; · iexists f1; iexact HC
    isplitl [HF0_dst]; · iexists _; iexact HF0_dst
    iexact HF0

set_option backward.proofsInPublic true in
/-- The last trip: nothing is issued. -/
def tripRunLast (k : Fin k0_t1_loop.trips) (hk : ¬k.val + 1 < 10) (a : Acc F) :
    { w : Acc F //
      resAt c X arg14 G k ⊢ wp frame (wpE (defs₀ (F := F)) 𝒱₀ (c : Thread nD τ) none) Set.univ
        (tripG arg14 harg14 arg1 harg1 arg2 harg2 arg3 harg3 arg4 harg4 arg5 harg5 arg6 harg6 arg7 harg7 arg8 harg8 arg9 harg9 arg10 harg10 arg11 harg11 arg12 harg12 v18 v20 v22 v24 v26 v28 cst_24 cst_25 k a)
        (fun r => iprop(⌜r = w⌝ ∗ resAt c X arg14 G (k.val + 1))) } := by
  obtain ⟨a1, a2, a3, a4, a5⟩ := a
  refine ⟨?_, ?run⟩
  case run =>
    have hk9 : k.val < 10 := Nat.lt_of_lt_of_eq k.isLt trips_eq
    have hk10 : 10 ≤ k.val + 1 := by omega
    have hc : ¬k0_cond1 k = 1#1 := by rw [cond1_eq, if_neg hk]; decide
    unfold resAt
    rw [homes_last c X k.val hk10 hk9, sl2_add2, Ring.roleAt_of_lt _ _ _ hk9, Ring.roleAt_of_le _ _ _ hk10]
    iintro ⟨HG, ⟨%W, HW⟩, Hrest, ⟨%f0, HF0⟩, HS⟩
    dsimp only [tripG]
    sl_unfold [k0_t1_body]
    sl_exec_parts
    sl_step
    isplitr; · ipureintro; rfl
    isplitl [HG]; · iexact HG
    isplitl [HW]; · iexists _; iexact HW
    isplitl [HF0_src Hrest]
    · isplitl [HF0_src]; · iexact HF0_src
      iexact Hrest
    isplitl [HS]; · iexact HS
    isplitl [HF0_dst]; · iexists _; iexact HF0_dst
    iexact HF0

/-- The carried values after trip `k`, from those before it. -/
def tripAcc (k : Fin k0_t1_loop.trips) (a : Acc F) : Acc F :=
  if hk : k.val + 1 < 10 then
    (tripRun c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 k hk a).1
  else
    (tripRunLast c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 k hk a).1

/-- Every trip takes the carried values to `tripAcc` of them, and the pieces to the next trip's. -/
theorem trip_wp (k : Fin k0_t1_loop.trips) (a : Acc F) :
    resAt c X arg14 G k ⊢ wp frame (wpE (defs₀ (F := F)) 𝒱₀ (c : Thread nD τ) none) Set.univ
      (tripG arg14 harg14 arg1 harg1 arg2 harg2 arg3 harg3 arg4 harg4 arg5 harg5 arg6 harg6 arg7 harg7 arg8 harg8 arg9 harg9 arg10 harg10 arg11 harg11 arg12 harg12 v18 v20 v22 v24 v26 v28 cst_24 cst_25 k a)
      (fun r => iprop(⌜r = tripAcc c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 k a⌝ ∗ resAt c X arg14 G (k.val + 1))) := by
  unfold tripAcc
  by_cases hk : k.val + 1 < 10
  · rw [dif_pos hk]
    exact (tripRun c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 k hk a).2
  · rw [dif_neg hk]
    exact (tripRunLast c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 k hk a).2

/-- The carried values before trip `k`, from those the loop starts with. -/
def accAt (a0 : Acc F) : ℕ → Acc F
  | 0 => a0
  | k + 1 =>
    if h : k < k0_t1_loop.trips then
      tripAcc c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 ⟨k, h⟩ (accAt a0 k)
    else accAt a0 k

set_option warn.classDefReducibility false in
/-- The loop's invariant: the carried values are the trips' so far, and the pieces are held as before trip `k`. -/
@[sl_loop] def loopInv (a0 : Acc F) :
    LoopInvTy_k0_t1 (F := F) Unit ℕ (UU nD τ) ℕ 𝒱₀ c none Set.univ xM (Memref.isWhole_whole _) arg1 harg1 arg2 harg2 arg3 harg3 arg4 harg4
      arg5 harg5 arg6 harg6 arg7 harg7 arg8 harg8 arg9 harg9 arg10 harg10 arg11 harg11 arg12 harg12 bufM (Memref.isWhole_whole _) arg14 harg14
      cc0_scratch2 v18 v20 v22 v24 v26 v28 cst_24 cst_25 a0 where
  inv k a := iprop(⌜a = accAt c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 a0 k⌝ ∗ resAt c X arg14 G k)
  step k a := by
    iintro ⟨%ha, H⟩
    have e : accAt c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 a0 (k.val + 1)
        = tripAcc c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 k a := by
      rw [ha, accAt, dif_pos k.isLt]
    rw [e]
    iapply (wp_wand_r Idealize.ShloMosaic.frame (wpE (defs₀ (F := F)) 𝒱₀ (c : Thread nD τ) none) Set.univ)
    isplitl [H]
    · iapply (trip_wp c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 k a); iexact H
    · iintro %_ H'; iexact H'
/-- After the loop: the carried values, every block held, and the two slots free. -/
instance loopExit (a0 : Acc F) :
    LoopExit (loopInv c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 a0) where
  post a := iprop(⌜a = accAt c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 a0 10⌝
    ∗ (arg14.view.loc (c : Thread nD τ) ↦[arg14.view.set]{fullShare} G) ∗ (∃ W, owes (c : Thread nD τ) 0 W)
    ∗ bigSep Finset.univ (homeP c X) ∗ freeP c 0 ∗ freeP c 1)
  exit a := by
    show iprop(⌜a = accAt c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 cst_24 cst_25 a0 k0_t1_loop.trips⌝ ∗ resAt c X arg14 G k0_t1_loop.trips) ⊢ _
    rw [trips_eq]
    unfold resAt
    rw [Ring.homeSet_last 1 10 (Nat.le_refl 10), Ring.roleAt_of_le _ _ _ (Nat.le_refl 10), show Ring.sl 2 10 = 0 from rfl, show Ring.sl 2 (10 + 1) = 1 from rfl]
end Trip

end Cert.Proof.Ker

end
-- ==== Proof.Body.lean ====
/-
  The kernel's body: the first block's transfer issued, the layer-0 gate inputs stored, the loop, the last layer-1 step,
  and the result stored.
-/
module

public import proofs.«01_k».proof.Proof.Trip

@[expose] public section

noncomputable section

namespace Cert.Proof.Ker

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section Body
variable (c : Dev nD) (X : Buf (Elt F) (xM.view.loc (c : Thread nD τ)))
  (arg14 : Memref sig .tc .vmem S200x4 .f32) (harg14 : arg14.IsWhole)
  (arg1 : Memref sig .tc .vmem S140x2 .f32) (harg1 : arg1.IsWhole)
  (arg2 : Memref sig .tc .vmem S1x1 .f32) (harg2 : arg2.IsWhole)
  (arg3 : Memref sig .tc .vmem S200x18 .f32) (harg3 : arg3.IsWhole)
  (arg4 : Memref sig .tc .vmem S18x4 .f32) (harg4 : arg4.IsWhole)
  (arg5 : Memref sig .tc .vmem S1x4 .f32) (harg5 : arg5.IsWhole)
  (arg6 : Memref sig .tc .vmem S1x4 .f32) (harg6 : arg6.IsWhole)
  (arg7 : Memref sig .tc .vmem S1x4 .f32) (harg7 : arg7.IsWhole)
  (arg8 : Memref sig .tc .vmem S1x4 .f32) (harg8 : arg8.IsWhole)
  (arg9 : Memref sig .tc .vmem S1x4 .f32) (harg9 : arg9.IsWhole)
  (arg10 : Memref sig .tc .vmem S1x2 .f32) (harg10 : arg10.IsWhole)
  (arg11 : Memref sig .tc .vmem S1x1 .f32) (harg11 : arg11.IsWhole)
  (arg12 : Memref sig .tc .vmem S1x1 .f32) (harg12 : arg12.IsWhole)
  (g1 : Buf (Elt F) (arg1.view.loc (c : Thread nD τ)))
  (g2 : Buf (Elt F) (arg2.view.loc (c : Thread nD τ)))
  (g3 : Buf (Elt F) (arg3.view.loc (c : Thread nD τ)))
  (g4 : Buf (Elt F) (arg4.view.loc (c : Thread nD τ)))
  (g5 : Buf (Elt F) (arg5.view.loc (c : Thread nD τ)))
  (g6 : Buf (Elt F) (arg6.view.loc (c : Thread nD τ)))
  (g7 : Buf (Elt F) (arg7.view.loc (c : Thread nD τ)))
  (g8 : Buf (Elt F) (arg8.view.loc (c : Thread nD τ)))
  (g9 : Buf (Elt F) (arg9.view.loc (c : Thread nD τ)))
  (g10 : Buf (Elt F) (arg10.view.loc (c : Thread nD τ)))
  (g11 : Buf (Elt F) (arg11.view.loc (c : Thread nD τ)))

/-- The body on the given memrefs; the rows, the row buffer and the semaphores are the kernel's own. -/
abbrev bodyG : Prog (TpuEff nD τ sig (Elt F) Λ₀ .tc) PUnit :=
  cc0__fused_kernel xM (Memref.isWhole_whole _) arg1 harg1 arg2 harg2 arg3 harg3 arg4 harg4 arg5 harg5 arg6 harg6 arg7 harg7 arg8 harg8 arg9 harg9 arg10 harg10 arg11 harg11 arg12 harg12 bufM (Memref.isWhole_whole _) arg14 harg14 cc0_scratch2

/-- The eleven inputs held, at the contents given. -/
abbrev inputs : sProp 𝕄 :=
  iprop((arg1.view.loc (c : Thread nD τ) ↦[arg1.view.set]{fullShare} g1)
    ∗ (arg2.view.loc (c : Thread nD τ) ↦[arg2.view.set]{fullShare} g2)
    ∗ (arg3.view.loc (c : Thread nD τ) ↦[arg3.view.set]{fullShare} g3)
    ∗ (arg4.view.loc (c : Thread nD τ) ↦[arg4.view.set]{fullShare} g4)
    ∗ (arg5.view.loc (c : Thread nD τ) ↦[arg5.view.set]{fullShare} g5)
    ∗ (arg6.view.loc (c : Thread nD τ) ↦[arg6.view.set]{fullShare} g6)
    ∗ (arg7.view.loc (c : Thread nD τ) ↦[arg7.view.set]{fullShare} g7)
    ∗ (arg8.view.loc (c : Thread nD τ) ↦[arg8.view.set]{fullShare} g8)
    ∗ (arg9.view.loc (c : Thread nD τ) ↦[arg9.view.set]{fullShare} g9)
    ∗ (arg10.view.loc (c : Thread nD τ) ↦[arg10.view.set]{fullShare} g10)
    ∗ (arg11.view.loc (c : Thread nD τ) ↦[arg11.view.set]{fullShare} g11))

/-- The output's one element, written. -/
abbrev R11 : Rect S1x1 := Rect.unit (s := S1x1) ![0, 0] S1x1.size inb_S1x1_S1x1_0_0

/-- What the body is handed: the inputs, the output and the scratch at anything, the ten blocks, the two slots free. -/
abbrev PRE (gO : Buf (Elt F) (arg12.view.loc (c : Thread nD τ))) (gS : Buf (Elt F) (arg14.view.loc (c : Thread nD τ))) (W : Waits sig Unit) : sProp 𝕄 :=
  iprop(inputs c arg1 arg2 arg3 arg4 arg5 arg6 arg7 arg8 arg9 arg10 arg11 g1 g2 g3 g4 g5 g6 g7 g8 g9 g10 g11
    ∗ (arg12.view.loc (c : Thread nD τ) ↦[arg12.view.set]{fullShare} gO) ∗ (arg14.view.loc (c : Thread nD τ) ↦[arg14.view.set]{fullShare} gS)
    ∗ homeP c X 0 ∗ bigSep (Ring.homeSet 1 0) (homeP c X) ∗ (∃ f, slotP c 0 f) ∗ freeP c 1 ∗ cellP c 0 ∗ owes (c : Thread nD τ) 0 W)
/-- What it hands back: the output at `w`. -/
abbrev POST (gO : Buf (Elt F) (arg12.view.loc (c : Thread nD τ))) (w : (R11).shape.Idx → Elt F .f32) : sProp 𝕄 :=
  iprop(inputs c arg1 arg2 arg3 arg4 arg5 arg6 arg7 arg8 arg9 arg10 arg11 g1 g2 g3 g4 g5 g6 g7 g8 g9 g10 g11
    ∗ (arg12.view.loc (c : Thread nD τ) ↦[arg12.view.set]{fullShare} arg12.view.writes (Elt F) gO [⟨R11, w⟩])
    ∗ (∃ gS : Buf (Elt F) (arg14.view.loc (c : Thread nD τ)), arg14.view.loc (c : Thread nD τ) ↦[arg14.view.set]{fullShare} gS)
    ∗ bigSep Finset.univ (homeP c X) ∗ freeP c 0 ∗ freeP c 1 ∗ ∃ W, owes (c : Thread nD τ) 0 W)

theorem sl2_0 : Ring.sl 2 0 = 0 := Fin.ext (by rfl)
theorem sl2_1 : Ring.sl 2 (0 + 1) = 1 := Fin.ext (by rfl)
theorem bk10_0 : Ring.bk 10 0 = 0 := Fin.ext (by rfl)

set_option backward.proofsInPublic true in
attribute [local sl_canon] sl2_0 sl2_1 bk10_0 in
/-- The body's run: its result, found by running it. -/
def bodyRun :
    { w : (R11).shape.Idx → Elt F .f32 // ∀ gO gS W (Q : PUnit → sProp 𝕄),
      iprop(PRE c X arg14 arg1 arg2 arg3 arg4 arg5 arg6 arg7 arg8 arg9 arg10 arg11 arg12 g1 g2 g3 g4 g5 g6 g7 g8 g9 g10 g11 gO gS W ∗ (POST c X arg14 arg1 arg2 arg3 arg4 arg5 arg6 arg7 arg8 arg9 arg10 arg11 arg12 g1 g2 g3 g4 g5 g6 g7 g8 g9 g10 g11 gO w -∗ Q ⟨⟩))
        ⊢ wp frame (wpE (defs₀ (F := F)) 𝒱₀ (c : Thread nD τ) none) Set.univ (bodyG arg14 harg14 arg1 harg1 arg2 harg2 arg3 harg3 arg4 harg4 arg5 harg5 arg6 harg6 arg7 harg7 arg8 harg8 arg9 harg9 arg10 harg10 arg11 harg11 arg12 harg12) Q } := by
  refine ⟨?_, ?run⟩
  case run =>
    intro gO gS W Q
    iintro ⟨⟨⟨H1, H2, H3, H4, H5, H6, H7, H8, H9, H10, H11⟩, HO, HS, Hb0, Hb, ⟨%f0, Hs0⟩, ⟨⟨%f1, Hs1⟩, Hc1⟩, Hc0, HW⟩, Hk⟩
    sl_exec_parts
    sl_step
    iapply Hk
    isplitl [H1 H2 H3 H4 H5 H6 H7 H8 H9 H10 H11]
    · sl_close
    isplitl [HO]; · iexact HO
    isplitl [HL1]; · iexists _; iexact HL1
    isplitl [HL3]; · iexact HL3
    isplitl [HL4 HL5]
    · isplitl [HL4]; · iexists _; iexact HL4
      iexact HL5
    isplitl [HL6 HL7]
    · isplitl [HL6]; · iexists _; iexact HL6
      iexact HL7
    iexists _; iexact HL2
end Body

end Cert.Proof.Ker

end
-- ==== Proof.Launch.lean ====
/-
  The launch: the host operations, then the kernel's one region. The result array ends at the body's value, every
  argument array is unchanged, and every semaphore counter is zero.
-/
module

public import proofs.«01_k».proof.Proof.Body
public import proofs.«01_k».proof.Proof.Gen.KernelIdeal.Frame
public import Idealize.ShloMosaic.Lib.VecWindow

@[expose] public section

noncomputable section

namespace Cert.Proof.Ker

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ) (ρ : Dev nD → PrngReg)

/-- The memory at launch. -/
abbrev ms : MemSt nD τ sig (Elt F) := ⟨m, fun _ => 0, ρ⟩
/-- The rows, as launched. -/
abbrev XX (c : Dev nD) : Buf (Elt F) (xM.view.loc (c : Thread nD τ)) := m ((c : Thread nD τ).loc main_arg0)

abbrev osem : Fin 2 → SemLoc sig := fun s => .dma (csm s).sem
/-- The two transfer semaphores are the kernel's own. -/
theorem ownSemFacts : Pipeline.OwnSemFacts spec0 osem := by decide

/-! ## The ten blocks of rows, and the two slots of the row buffer -/

/-- The elements of block `b`. -/
abbrev blkSet (b : Fin 10) : Finset S100000x140.Idx := (Rect.unit (s := S100000x140) (blkOff b) S10000x140.size (blkOff_inb b)).set
/-- The elements of slot `s`. -/
abbrev slotSet (s : Fin 2) : Finset S2x10000x140.Idx := (Rect.unit (s := S2x10000x140) (slotOff s) S1x10000x140.size (slotOff_inb s)).set

theorem blk_set (b : Fin 10) : (blk b : Memref sig .tc .hbm _ _).view.set = blkSet b := View.set_slice_whole _ _
theorem rslot_set (s : Fin 2) : (rslot s : Memref sig .tc .vmem _ _).view.set = slotSet s := (View.set_reshape _ _).trans (View.set_slice_whole _ _)

/-- Block `b` is the rows from `10000 b` on, ten thousand of them. -/
theorem mem_blkSet (b : Fin 10) (y : S100000x140.Idx) : y ∈ blkSet b ↔ 10000 * b.val ≤ (y 0).val ∧ (y 0).val < 10000 * b.val + 10000 := by
  rw [Rect.mem_set_unit]
  have h1 : (y 1).val < 140 := (y 1).isLt
  constructor
  · intro H; exact H 0
  · intro H i; fin_cases i
    · exact H
    · show 0 ≤ (y 1).val ∧ (y 1).val < 0 + 140; omega
/-- Slot `s` is the elements whose first coordinate is `s`. -/
theorem mem_slotSet (s : Fin 2) (y : S2x10000x140.Idx) : y ∈ slotSet s ↔ (y 0).val = s.val := by
  rw [Rect.mem_set_unit]
  have h1 : (y 1).val < 10000 := (y 1).isLt
  have h2 : (y 2).val < 140 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 10000; omega
    · show 0 ≤ (y 2).val ∧ (y 2).val < 0 + 140; omega
theorem blkSet_disjoint : ∀ b b' : Fin 10, b ≠ b' → Disjoint (blkSet b) (blkSet b') := by
  intro b b' hne; rw [Finset.disjoint_left]; intro y hy hy'; rw [mem_blkSet] at hy hy'
  exact hne (Fin.ext (by omega))
theorem blkSet_cover : (Finset.univ : Finset (Fin 10)).biUnion blkSet = Finset.univ := by
  ext y; simp only [Finset.mem_biUnion, Finset.mem_univ, true_and, iff_true]
  have h0 : (y 0).val < 100000 := (y 0).isLt
  exact ⟨⟨(y 0).val / 10000, by omega⟩, by rw [mem_blkSet]; dsimp only; omega⟩
theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 2)).biUnion slotSet = Finset.univ := by
  ext y; simp only [Finset.mem_biUnion, Finset.mem_univ, true_and, iff_true]; exact ⟨(y 0).cast (by decide), by rw [mem_slotSet]; rfl⟩

theorem bigSep_two (Φ : Fin 2 → sProp 𝕄) : bigSep Finset.univ Φ = iprop(Φ 0 ∗ Φ 1) :=
  bigSep_univ_eq_bigSepL [(0 : Fin 2), (1 : Fin 2)] (by decide) (by decide) Φ

/-- The rows whole are the ten blocks held. -/
theorem rows_eq (c : Dev nD) :
    (((c : Thread nD τ).loc main_arg0) ↦{fullShare} m ((c : Thread nD τ).loc main_arg0) : sProp 𝕄) = bigSep Finset.univ (homeP c (XX m c)) := by
  rw [Ring.pointsTo_blocks (ℓ := (c : Thread nD τ).loc main_arg0) blkSet blkSet_disjoint blkSet_cover]
  exact bigSep_congr fun b _ => by rw [← blk_set]; rfl
/-- Block 0 apart from the others. -/
theorem homes_zero (c : Dev nD) (X : Buf (Elt F) (xM.view.loc (c : Thread nD τ))) :
    bigSep Finset.univ (homeP c X) = iprop(homeP c X 0 ∗ bigSep (Ring.homeSet 1 0) (homeP c X)) := by
  have e : (Finset.univ : Finset (Fin 10)) = insert 0 (Ring.homeSet (NB := 10) 1 0) := by
    ext b; simp only [Finset.mem_univ, Finset.mem_insert, Ring.mem_homeSet, true_iff, Fin.ext_iff]
    have := b.isLt
    show b.val = 0 ∨ _
    omega
  rw [e, bigSep_insert (by simp [Ring.mem_homeSet])]; rfl

theorem slotP_eq (c : Dev nD) (s : Fin 2) (f) : slotP c s f = (((c : Thread nD τ).loc cc0_scratch0) ↦[slotSet s]{fullShare} f : sProp 𝕄) :=
  congrArg (fun S => (_ ↦[S]{fullShare} f : sProp 𝕄)) (rslot_set s)
/-- The row buffer whole is its two slots, -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) slotSet slotSet_disjoint slotSet_cover f).trans (bigSep_two _))) $$ H
  icases H2 with ⟨H0, H1⟩
  isplitl [H0]
  · iexists f; iapply (Entails.of_eq (slotP_eq c 0 f).symm); iexact H0
  · iexists f; iapply (Entails.of_eq (slotP_eq c 1 f).symm); iexact H1
/-- and back. -/
theorem buf_join (c : Dev nD) :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) slotSet slotSet_disjoint slotSet_cover f0)
  irw [bigSep_two]
  isplitl [H0]
  · iexists f0; iapply (Entails.of_eq (slotP_eq c 0 f0)); iexact H0
  · iexists f1; iapply (Entails.of_eq (slotP_eq c 1 f1)); iexact H1
/-- The gate-input scratch whole, as the body names it. -/
theorem gates_eq (c : Dev nD) (f : Buf (Elt F) (gM.view.loc (c : Thread nD τ))) :
    (((c : Thread nD τ).loc cc0_scratch1) ↦{fullShare} f : sProp 𝕄) = (gM.view.loc (c : Thread nD τ) ↦[gM.view.set]{fullShare} f) := by
  rw [View.set_whole]

theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1) := by
  unfold Pipeline.ownSems0; rw [bigSep_two]

/-! ## The region's proof data -/

/-- Held before and after the one point: the ten blocks, the two slots, the gate-input scratch, the two semaphores at
    zero. -/
def Φ (c : Dev nD) : sProp 𝕄 :=
  iprop(bigSep Finset.univ (homeP c (XX m c)) ∗ (∃ f, slotP c 0 f) ∗ (∃ f, slotP c 1 f)
    ∗ (∃ f : Buf (Elt F) (gM.view.loc (c : Thread nD τ)), gM.view.loc (c : Thread nD τ) ↦[gM.view.set]{fullShare} f) ∗ cellP c 0 ∗ cellP c 1)

abbrev hst0 (t : Fin cfg0.N) : (st0_0 t).IsWhole := hstage0_0 0
abbrev hst1 (t : Fin cfg0.N) : (st0_1 t).IsWhole := hstage0_1 0
abbrev hst2 (t : Fin cfg0.N) : (st0_2 t).IsWhole := hstage0_2 0
abbrev hst3 (t : Fin cfg0.N) : (st0_3 t).IsWhole := hstage0_3 0
abbrev hst4 (t : Fin cfg0.N) : (st0_4 t).IsWhole := hstage0_4 0
abbrev hst5 (t : Fin cfg0.N) : (st0_5 t).IsWhole := hstage0_5 0
abbrev hst6 (t : Fin cfg0.N) : (st0_6 t).IsWhole := hstage0_6 0
abbrev hst7 (t : Fin cfg0.N) : (st0_7 t).IsWhole := hstage0_7 0
abbrev hst8 (t : Fin cfg0.N) : (st0_8 t).IsWhole := hstage0_8 0
abbrev hst9 (t : Fin cfg0.N) : (st0_9 t).IsWhole := hstage0_9 0
abbrev hst10 (t : Fin cfg0.N) : (st0_10 t).IsWhole := hstage0_10 0
abbrev hst11 (t : Fin cfg0.N) : (st0_11 t).IsWhole := hstage0_11 0

/-- What the body stores: the result of its run on the staged blocks. -/
def outVal (c : Dev nD) (t : Fin cfg0.N) : (R11).shape.Idx → Elt F .f32 :=
  (bodyRun c (XX m c) gM (Memref.isWhole_whole _) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t)
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) ((st0_7 t).view.rep (iblk m c 7 t)) ((st0_8 t).view.rep (iblk m c 8 t)) ((st0_9 t).view.rep (iblk m c 9 t)) ((st0_10 t).view.rep (iblk m c 10 t))).1

/-- The body's run at the staged blocks, its result named. -/
theorem body_wp (c : Dev nD) (t : Fin cfg0.N) (gO : Buf (Elt F) ((st0_11 t).view.loc (c : Thread nD τ))) (gS : Buf (Elt F) (gM.view.loc (c : Thread nD τ)))
    (W : Waits sig Unit) (Q : PUnit → sProp 𝕄) :
    iprop(PRE c (XX m c) gM (st0_0 t) (st0_1 t) (st0_2 t) (st0_3 t) (st0_4 t) (st0_5 t) (st0_6 t) (st0_7 t) (st0_8 t) (st0_9 t) (st0_10 t) (st0_11 t)
        ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) ((st0_7 t).view.rep (iblk m c 7 t)) ((st0_8 t).view.rep (iblk m c 8 t)) ((st0_9 t).view.rep (iblk m c 9 t)) ((st0_10 t).view.rep (iblk m c 10 t)) gO gS W
      ∗ (POST c (XX m c) gM (st0_0 t) (st0_1 t) (st0_2 t) (st0_3 t) (st0_4 t) (st0_5 t) (st0_6 t) (st0_7 t) (st0_8 t) (st0_9 t) (st0_10 t) (st0_11 t)
        ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) ((st0_7 t).view.rep (iblk m c 7 t)) ((st0_8 t).view.rep (iblk m c 8 t)) ((st0_9 t).view.rep (iblk m c 9 t)) ((st0_10 t).view.rep (iblk m c 10 t)) gO (outVal m c t) -∗ Q ⟨⟩))
      ⊢ wp frame (wpE (defs₀ (F := F)) 𝒱₀ (c : Thread nD τ) none) Set.univ (bodyG gM (Memref.isWhole_whole _) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t)) Q :=
  (bodyRun c (XX m c) gM (Memref.isWhole_whole _) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t)
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) ((st0_7 t).view.rep (iblk m c 7 t)) ((st0_8 t).view.rep (iblk m c 8 t)) ((st0_9 t).view.rep (iblk m c 9 t)) ((st0_10 t).view.rep (iblk m c 10 t))).2 gO gS W Q

/-- The region's proof data: the staged inputs left in place, the result's block at the body's value. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outVal m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem before_w6 (c : Dev nD) (t : Fin cfg0.N) (d) : (dats m 0 c).before 6 t d = iblk m c 6 t := by
  unfold Dat.before; rw [if_pos (fetch0_6 t)]; unfold Dat.fetched Dat.blockOf iblk; dsimp only [dats]; rfl
theorem before_w7 (c : Dev nD) (t : Fin cfg0.N) (d) : (dats m 0 c).before 7 t d = iblk m c 7 t := by
  unfold Dat.before; rw [if_pos (fetch0_7 t)]; unfold Dat.fetched Dat.blockOf iblk; dsimp only [dats]; rfl
theorem before_w8 (c : Dev nD) (t : Fin cfg0.N) (d) : (dats m 0 c).before 8 t d = iblk m c 8 t := by
  unfold Dat.before; rw [if_pos (fetch0_8 t)]; unfold Dat.fetched Dat.blockOf iblk; dsimp only [dats]; rfl
theorem before_w9 (c : Dev nD) (t : Fin cfg0.N) (d) : (dats m 0 c).before 9 t d = iblk m c 9 t := by
  unfold Dat.before; rw [if_pos (fetch0_9 t)]; unfold Dat.fetched Dat.blockOf iblk; dsimp only [dats]; rfl
theorem before_w10 (c : Dev nD) (t : Fin cfg0.N) (d) : (dats m 0 c).before 10 t d = iblk m c 10 t := by
  unfold Dat.before; rw [if_pos (fetch0_10 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = iblk m c 7 t := by dsimp only [dats]
theorem after_w8 (c : Dev nD) (t : Fin cfg0.N) : (dats m 0 c).after 8 t = iblk m c 8 t := by dsimp only [dats]
theorem after_w9 (c : Dev nD) (t : Fin cfg0.N) : (dats m 0 c).after 9 t = iblk m c 9 t := by dsimp only [dats]
theorem after_w10 (c : Dev nD) (t : Fin cfg0.N) : (dats m 0 c).after 10 t = iblk m c 10 t := by dsimp only [dats]
theorem after_w11 (c : Dev nD) (t : Fin cfg0.N) : (dats m 0 c).after 11 t = outVal m c t := by dsimp only [dats]

/-! ## The body at the region's point -/

/-- A memref held at contents that read as `x` is held at the contents standing for `x`. -/
theorem held_rep {sp : Space} {s : Shape} {e : EltTy} (c : Dev nD) (a : Memref sig .tc sp s e) (g : Buf (Elt F) (a.view.loc (c : Thread nD τ)))
    (x : s.Idx → Elt F e) (h : a.view.read (Elt F) g = x) :
    (a.view.loc (c : Thread nD τ) ↦[a.view.set]{fullShare} g : sProp 𝕄) ⊢ (a.view.loc (c : Thread nD τ) ↦[a.view.set]{fullShare} a.view.rep x) :=
  h ▸ pointsTo_rep_entails (c : Thread nD τ) a g fullShare

theorem defs_tc : (defs₀ (F := F)) .tc cfg0.body
    = fun a => bodyG gM (Memref.isWhole_whole _) (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) (win0_8.stage (a.2 8)) (hstage0_8 0) (win0_9.stage (a.2 9)) (hstage0_9 0) (win0_10.stage (a.2 10)) (hstage0_10 0) (win0_11.stage (a.2 11)) (hstage0_11 0) := rfl
theorem prog_eq (t : Fin cfg0.N) : (defs₀ (F := F)) .tc cfg0.body (cfg0.bodyArgs t (cfg0.slots t)) = bodyG gM (Memref.isWhole_whole _) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t) :=
  (congrFun defs_tc _).trans rfl

set_option backward.isDefEq.respectTransparency.types false in
set_option maxHeartbeats 1000000 in
/-- The body takes the staged blocks to the result, and gives everything back. -/
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, before_w5, before_w6, before_w7, before_w8, before_w9, before_w10, after_w0, after_w1, after_w2, after_w3, after_w4, after_w5, after_w6, after_w7, after_w8, after_w9, after_w10, after_w11]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, Hs0, Hs1, ⟨%gS, HS⟩, Hc0, Hc1⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %g9, %hg9, H9⟩, ⟨%d10, %g10, %hg10, H10⟩, ⟨%d11, %gO, -, HO⟩⟩
  ihave Hh' := (Entails.of_eq (homes_zero c (XX m c))) $$ Hh
  icases Hh' with ⟨Hb0, Hb⟩
  ihave H0' := (held_rep c (st0_0 t) g0 (iblk m c 0 t) hg0) $$ H0
  ihave H1' := (held_rep c (st0_1 t) g1 (iblk m c 1 t) hg1) $$ H1
  ihave H2' := (held_rep c (st0_2 t) g2 (iblk m c 2 t) hg2) $$ H2
  ihave H3' := (held_rep c (st0_3 t) g3 (iblk m c 3 t) hg3) $$ H3
  ihave H4' := (held_rep c (st0_4 t) g4 (iblk m c 4 t) hg4) $$ H4
  ihave H5' := (held_rep c (st0_5 t) g5 (iblk m c 5 t) hg5) $$ H5
  ihave H6' := (held_rep c (st0_6 t) g6 (iblk m c 6 t) hg6) $$ H6
  ihave H7' := (held_rep c (st0_7 t) g7 (iblk m c 7 t) hg7) $$ H7
  ihave H8' := (held_rep c (st0_8 t) g8 (iblk m c 8 t) hg8) $$ H8
  ihave H9' := (held_rep c (st0_9 t) g9 (iblk m c 9 t) hg9) $$ H9
  ihave H10' := (held_rep c (st0_10 t) g10 (iblk m c 10 t) hg10) $$ H10
  sl_rw [prog_eq t]
  iapply (body_wp m c t gO gS W)
  isplitl [H0' H1' H2' H3' H4' H5' H6' H7' H8' H9' H10' HO HS Hb0 Hb Hs0 Hs1 Hc0 Hc1 HW]
  · isplitl [H0' H1' H2' H3' H4' H5' H6' H7' H8' H9' H10']
    · isplitl [H0']; · iexact H0'
      isplitl [H1']; · iexact H1'
      isplitl [H2']; · iexact H2'
      isplitl [H3']; · iexact H3'
      isplitl [H4']; · iexact H4'
      isplitl [H5']; · iexact H5'
      isplitl [H6']; · iexact H6'
      isplitl [H7']; · iexact H7'
      isplitl [H8']; · iexact H8'
      isplitl [H9']; · iexact H9'
      iexact H10'
    isplitl [HO]; · iexact HO
    isplitl [HS]; · iexact HS
    isplitl [Hb0]; · iexact Hb0
    isplitl [Hb]; · iexact Hb
    isplitl [Hs0]; · iexact Hs0
    isplitl [Hs1 Hc1]
    · isplitl [Hs1]; · iexact Hs1
      iexact Hc1
    isplitl [Hc0]; · iexact Hc0
    iexact HW
  · iintro ⟨⟨H0, H1, H2, H3, H4, H5, H6, H7, H8, H9, H10⟩, HO, HS, Hh, ⟨Hs0, Hc0⟩, ⟨Hs1, Hc1⟩, ⟨%W', HW⟩⟩
    isplitl [Hh Hs0 Hs1 HS Hc0 Hc1]
    · isplitl [Hh]; · iexact Hh
      isplitl [Hs0]; · iexact Hs0
      isplitl [Hs1]; · iexact Hs1
      isplitl [HS]; · iexact HS
      isplitl [Hc0]; · iexact Hc0
      iexact Hc1
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    isplitl [H6]
    · iexists _; isplitr; · ipureintro; exact View.read_rep _ _
      iexact H6
    isplitl [H7]
    · iexists _; isplitr; · ipureintro; exact View.read_rep _ _
      iexact H7
    isplitl [H8]
    · iexists _; isplitr; · ipureintro; exact View.read_rep _ _
      iexact H8
    isplitl [H9]
    · iexists _; isplitr; · ipureintro; exact View.read_rep _ _
      iexact H9
    isplitl [H10]
    · iexists _; isplitr; · ipureintro; exact View.read_rep _ _
      iexact H10
    iexists ((st0_11 t).view.writes (Elt F) gO [⟨R11, outVal m c t⟩])
    isplitr; · ipureintro; exact View.read_writes_full _ gO inb_S1x1_S1x1_0_0 (outVal m c t) []
    iexact HO

/-! ## The run -/

def intoΦ (c : Dev nD) : sProp 𝕄 := iprop(bigSep Finset.univ (homeP c (XX m c)) ∗ Pipeline.ownSems0 osem c)
def outOfΦ (c : Dev nD) : sProp 𝕄 := ((c : Thread nD τ).loc main_arg0) ↦{fullShare} m ((c : Thread nD τ).loc main_arg0)
def u₀ : UU nD τ := (initOf (Pipeline.cells cfgs cellOf_inj) (Pipeline.launchToks cfgs cellOf_inj), 1)
/-- The buffers neither staged nor the rows, at their contents when the region starts. -/
def restHeld (c : Dev nD) : sProp 𝕄 :=
  bigSep (Pipeline.restRefs sig spec0 \ {main_arg0}) fun b => ((c : Thread nD τ).loc b) ↦{fullShare} V m c b
/-- Every buffer that is no staged array ends as it was when the region started. -/
def QY (c : Dev nD) (s : MemSt nD τ sig (Elt F)) : Prop :=
  ∀ b ∈ Pipeline.restRefs sig spec0, s.mem ((c : Thread nD τ).loc b) = V m c b
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem rest_split (c : Dev nD) : (Pipeline.unscopedRest (Ix := Unit) (Name := ℕ) (U := UU nD τ) (Lvl := ℕ) spec0 c (V m c) : sProp 𝕄)
    = iprop((((c : Thread nD τ).loc main_arg0) ↦{fullShare} m ((c : Thread nD τ).loc main_arg0)) ∗ restHeld m c) := by
  rw [Pipeline.unscopedRest_sdiff spec0 {main_arg0} (Finset.singleton_subset_iff.mpr (Pipeline.mem_restRefs_of main_arg0 (by decide) (by decide))) c (V m c),
    bigSep_singleton, V_main_arg0]
  rfl

/-- Those buffers, held, are read off the memory. -/
theorem rest_read (c : Dev nD) (s' : Phys nD τ sig (Elt F)) :
    iprop((((c : Thread nD τ).loc main_arg0) ↦{fullShare} m ((c : Thread nD τ).loc main_arg0)) ∗ restHeld m c ∗ SI s')
      ⊢ (iprop(⌜QY m c s'.mem⌝ ∗ SI s') : sProp 𝕄) := by
  iintro ⟨H0, HZ, HSI⟩
  ihave HU := (Entails.of_eq (rest_split m c).symm) $$ [H0 HZ]
  · isplitl [H0]; · iexact H0
    iexact HZ
  unfold Pipeline.unscopedRest
  iapply (pointsTo_read_all (Pipeline.restRefs sig spec0) (fun b => (c : Thread nD τ).loc b) (V m c) s')
  isplitl [HU]; · iexact HU
  iexact HSI

set_option backward.isDefEq.respectTransparency.types false in
/-- Every weakly fair execution terminates, with the staged arrays at their final contents, the others unchanged since
    the region started, and every counter at zero. -/
theorem run_main : θ_run defs (onTc (τ := τ) (main (F := F))) (ms m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := restHeld m)
    (hX := fun c => by
      rw [rest_split, rows_eq]
      unfold intoΦ
      iintro ⟨⟨H0, HZ⟩, HS, -, -, -⟩; imodintro
      isplitl [H0 HS]
      · isplitl [H0]; · iexact H0
        iexact HS
      iexact HZ)
    (hin := fun c => by
      rw [scopedRest0_eq, show (dats m 0 c).Φ 0 = Φ m c from rfl]
      unfold intoΦ Φ; rw [ownSems0_eq]
      iintro ⟨⟨H0, Hc0, Hc1⟩, Hb, ⟨%f, Hg⟩⟩
      ihave Hs := (buf_split c) $$ Hb
      icases Hs with ⟨Hs0, Hs1⟩
      isplitl [H0]; · iexact H0
      isplitl [Hs0]; · iexact Hs0
      isplitl [Hs1]; · iexact Hs1
      isplitl [Hg]
      · iexists f; iapply (Entails.of_eq (gates_eq c f)); iexact Hg
      isplitl [Hc0]; · iexact Hc0
      iexact Hc1)
    (hout := fun c => by
      rw [scopedRest0_eq, show (dats m 0 c).Φ (Fin.last cfg0.N) = Φ m c from rfl, ownSems0_eq]
      unfold Φ outOfΦ; rw [← rows_eq m c]
      iintro ⟨H0, Hs0, Hs1, ⟨%f, Hg⟩, Hc0, Hc1⟩
      isplitl [H0]; · iexact H0
      isplitl [Hc0 Hc1]
      · isplitl [Hc0]; · iexact Hc0
        iexact Hc1
      isplitl [Hs0 Hs1]
      · iapply (buf_join c)
        isplitl [Hs0]; · iexact Hs0
        iexact Hs1
      iexists f; iapply (Entails.of_eq (gates_eq c f).symm); iexact Hg)
    (QY := QY m)
    (hY := fun c s' => by
      unfold outOfΦ
      iintro ⟨H0, HZ, HSI⟩
      imodintro
      iapply (rest_read m c s')
      isplitl [H0]; · iexact H0
      isplitl [HZ]; · iexact HZ
      iexact HSI)
    (hQ := fun _ hh hz => ⟨hh, hz⟩)

end Cert.Proof.Ker

end
-- ==== Proof.Args.lean ====
/-
  What the run leaves of the arguments: each of the fifteen argument arrays as launched, and every counter at zero.
-/
module

public import proofs.«01_k».proof.Proof.Launch

@[expose] public section

noncomputable section

namespace Cert.Proof.Ker

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ) (ρ : Dev nD → PrngReg)

/-- Every argument array is as launched. -/
theorem args_of (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).1 9).trans (((dats m 0 c).arrAt_in 9 rfl _).trans (V_main_arg13 m c)),
    ((h c).2 main_arg14 (Pipeline.mem_restRefs_of main_arg14 (by decide) (by decide))).trans (V_main_arg14 m c)⟩

/-- Every weakly fair execution terminates with the arguments unchanged and every counter at zero. -/
theorem run_args : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run defs _ _).mono (fun r h => ⟨fun c => args_of m r h.1 c, h.2⟩) (run_main m ρ)

end Cert.Proof.Ker

end
-- ==== Proof.AsPrinted.lean ====
/-
  The kernel as printed, float values being bit patterns: it differs from the idealised one only in the literal that
  the idealised one names, so with that name read as the literal the two are one program.
-/
module

public import proofs.«01_k».proof.Proof.Args
public import proofs.«01_k».proof.Proof.Gen.Kernel
public import proofs.«01_k».proof.Defs

@[expose] public section

noncomputable section

namespace Cert.Proof.AsPrinted

open Idealize.ShloMosaic Idealize.ShloMosaic.TcCoe Idealize.ShloMosaic.Tactic
open Idealize.SL Idealize.SL.Sem

/-- A named constant read as the literal it names. -/
abbrev literal : Named Bits where
  named _ _ φ b := FloatOps.ofBits φ b

section
open Cert.KernelIdeal

/-- What is proved of the idealised text, its named constant read as its literal. -/
def atBits : Prop :=
  letI := literal
  letI := Cert.KernelIdeal.Gen.facts
  ∀ (m : (ℓ : Loc nD τ sig) → Buf (Elt Bits) ℓ) (ρ : Dev nD → PrngReg), True → θ_run (defs (F := Bits)) (onTc (τ := τ) (main (F := Bits))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0)

/-- It holds, the run's proof being for every reading of floats and of the name. -/
theorem atBits_holds : atBits := fun m ρ _ => @Cert.Proof.Ker.run_args Bits _ literal m ρ
end

/-- That is the claim of the printed text. -/
theorem frame : Cert.quiescent_Kernel (hKernel := Cert.Kernel.Gen.facts) := by
  have h : atBits = Cert.quiescent_Kernel (hKernel := Cert.Kernel.Gen.facts) := by sl_kernel_rfl
  exact h.mp atBits_holds

end Cert.Proof.AsPrinted

end
-- ==== Proof.RefOps.lean ====
/-
  The reference's operations as lists: before its first loop, the first loop's condition and body, between the loops,
  the second loop's condition and body, and after it. Its main function and its loops' bodies run these lists.
-/
module

public import proofs.«01_k».proof.Proof.Gen.ReferenceIdeal
public import Idealize.ShloMosaic.Lib.StableHlo.RunLoop

@[expose] public section

set_option maxRecDepth 100000

noncomputable section

namespace Cert.Proof.Ref

open Cert.ReferenceIdeal Cert.ReferenceIdeal.Gen
open Idealize.ShloMosaic Idealize.ShloMosaic.TcCoe Idealize.ShloMosaic.Tactic
open Idealize.SL Idealize.SL.Sem

variable {F : FTy → Type} [FloatOps F]

/-- The operations before the first loop, stretch 0. -/
abbrev opsA_0 : List (HloOp τ sig (Elt F)) :=
  [ StableHlo.unary main_arg3 main_v0 ((transpose S140x1 [1, 0] · transposes_S1x140_S140x1_1_0) : (⟨S1x140, .f32⟩ : BufTy).Contents (Elt F) → (⟨S140x1, .f32⟩ : BufTy).Contents (Elt F)),
    StableHlo.binary main_arg0 main_v0 main_v1 ((fun l r => Host.dotGeneral dot_S100000x140_S140x1_S100000x1_1_0_0_1_n_n none l r) : (⟨S100000x140, .f32⟩ : BufTy).Contents (Elt F) → (⟨S140x1, .f32⟩ : BufTy).Contents (Elt F) → (⟨S100000x1, .f32⟩ : BufTy).Contents (Elt F)),
    StableHlo.unary main_arg4 main_v2 (broadcastInDim S1x1 ![1] bcast_S1_S1x1_1 : (⟨S1, .f32⟩ : BufTy).Contents (Elt F) → (⟨S1x1, .f32⟩ : BufTy).Contents (Elt F)),
    StableHlo.unary main_v2 main_v3 (broadcastInDim S100000x1 ![0, 1] bcast_S1x1_S100000x1_0_1 : (⟨S1x1, .f32⟩ : BufTy).Contents (Elt F) → (⟨S100000x1, .f32⟩ : BufTy).Contents (Elt F)),
    StableHlo.binary main_v1 main_v3 main_v4 (addf : (⟨S100000x1, .f32⟩ : BufTy).Contents (Elt F) → (⟨S100000x1, .f32⟩ : BufTy).Contents (Elt F) → (⟨S100000x1, .f32⟩ : BufTy).Contents (Elt F)) ]
/-- Each touches references of the core alone. -/
theorem opsA_0_sub : (opsA_0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩

/-- The operations before the first loop, stretch 1. -/
abbrev opsA_1 : List (HloOp τ sig (Elt F)) :=
  [ StableHlo.nullary main_call0_cst (constant S_ .f32 0x00000000#32),
    StableHlo.unary main_call0_cst main_call0_v0 ((broadcastInDim S100000x1 ![] bcast_S_S100000x1) : (⟨S_, .f32⟩ : BufTy).Contents (Elt F) → (⟨S100000x1, .f32⟩ : BufTy).Contents (Elt F)),
    StableHlo.binary main_v4 main_call0_v0 main_v5 (maximumf : (⟨S100000x1, .f32⟩ : BufTy).Contents (Elt F) → (⟨S100000x1, .f32⟩ : BufTy).Contents (Elt F) → (⟨S100000x1, .f32⟩ : BufTy).Contents (Elt F)) ]
/-- Each touches references of the core alone. -/
theorem opsA_1_sub : (opsA_1 : List (HloOp τ sig (Elt F))).Forall fun op => op.bufs ⊆ StableHlo.tcRefs τ sig :=
  ⟨StableHlo.nullary_bufs_sub .., StableHlo.unary_bufs_sub .., StableHlo.binary_bufs_sub ..⟩

/-- The operations before the first loop, stretch 2. -/
abbrev opsA_2 : List (HloOp τ sig (Elt F)) :=
  [ StableHlo.unary main_arg1 main_v6 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v6 main_v7 (rfl : (.i32 : EltTy) = .i32) shapeCasts_S1x100000_S100000,
    StableHlo.unary main_arg0 main_v8 ((extractStridedSlice S100000x1 ![0, 0] · slices_S100000x140_S100000x1_0_0) : (⟨S100000x140, .f32⟩ : BufTy).Contents (Elt F) → (⟨S100000x1, .f32⟩ : BufTy).Contents (Elt F)),
    StableHlo.reshape main_v8 main_v9 (rfl : (.f32 : EltTy) = .f32) shapeCasts_S100000x1_S100000,
    StableHlo.nullary main_c (constantI S_ 32 0#32),
    StableHlo.unary main_c main_v10 (broadcastInDim S100000 ![] bcast_S_S100000 : (⟨S_, .i32⟩ : BufTy).Contents (Elt F) → (⟨S100000, .i32⟩ : BufTy).Contents (Elt F)),
    StableHlo.binary main_v7 main_v10 main_v11 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 100000#32),
    StableHlo.unary main_c_0 main_v12 (broadcastInDim S100000 ![] bcast_S_S100000 : (⟨S_, .i32⟩ : BufTy).Contents (Elt F) → (⟨S100000, .i32⟩ : BufTy).Contents (Elt F)),
    StableHlo.binary main_v7 main_v12 main_v13 (addi : (⟨S100000, .i32⟩ : BufTy).Contents (Elt F) → (⟨S100000, .i32⟩ : BufTy).Contents (Elt F) → (⟨S100000, .i32⟩ : BufTy).Contents (Elt F)),
    StableHlo.ternary main_v11 main_v13 main_v7 main_v14 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_1 (constantI S_ 32 0#32),
    StableHlo.unary main_c_1 main_v15 (broadcastInDim S100000 ![] bcast_S_S100000 : (⟨S_, .i32⟩ : BufTy).Contents (Elt F) → (⟨S100000, .i32⟩ : BufTy).Contents (Elt F)),
    StableHlo.unary main_v15 main_v16 (id : (⟨S100000, .i32⟩ : BufTy).Contents (Elt F) → (⟨S100000, .i32⟩ : BufTy).Contents (Elt F)),
    StableHlo.unary main_v14 main_v17 (broadcastInDim S100000x1 ![0] bcast_S100000_S100000x1_0 : (⟨S100000, .i32⟩ : BufTy).Contents (Elt F) → (⟨S100000x1, .i32⟩ : BufTy).Contents (Elt F)),
    StableHlo.unary main_v16 main_v18 (broadcastInDim S100000x1 ![0] bcast_S100000_S100000x1_0 : (⟨S100000, .i32⟩ : BufTy).Contents (Elt F) → (⟨S100000x1, .i32⟩ : BufTy).Contents (Elt F)),
    StableHlo.binary main_v17 main_v18 main_v19 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.ternary main_v5 main_v19 main_v9 main_v20 ((fun x i u => Host.scatterAdd scatter_S100000x1_S100000x2_S100000_n_01_01_1 x i u) : (⟨S100000x1, .f32⟩ : BufTy).Contents (Elt F) → (⟨S100000x2, .i32⟩ : BufTy).Contents (Elt F) → (⟨S100000, .f32⟩ : BufTy).Contents (Elt F) → (⟨S100000x1, .f32⟩ : BufTy).Contents (Elt F)),
    StableHlo.nullary main_cst (constant S_ .f32 0x00000000#32),
    StableHlo.binary main_v20 main_cst main_v21 ((fun x v => Host.reduceAdd x v reducesTo_S100000x1_S1_d0 h_S_) : (⟨S100000x1, .f32⟩ : BufTy).Contents (Elt F) → (⟨S_, .f32⟩ : BufTy).Contents (Elt F) → (⟨S1, .f32⟩ : BufTy).Contents (Elt F)),
    StableHlo.nullary main_cst_2 (constant S_ .f32 0x47C35000#32),
    StableHlo.unary main_cst_2 main_v22 (broadcastInDim S1 ![] bcast_S_S1 : (⟨S_, .f32⟩ : BufTy).Contents (Elt F) → (⟨S1, .f32⟩ : BufTy).Contents (Elt F)),
    StableHlo.binary main_v21 main_v22 main_v23 (Host.divf : (⟨S1, .f32⟩ : BufTy).Contents (Elt F) → (⟨S1, .f32⟩ : BufTy).Contents (Elt F) → (⟨S1, .f32⟩ : BufTy).Contents (Elt F)),
    StableHlo.unary main_v23 main_v24 (broadcastInDim S1x1 ![0] bcast_S1_S1x1_0 : (⟨S1, .f32⟩ : BufTy).Contents (Elt F) → (⟨S1x1, .f32⟩ : BufTy).Contents (Elt F)),
    StableHlo.nullary main_cst_3 (constant S_ .f32 0x00000000#32),
    StableHlo.unary main_cst_3 main_v25 (broadcastInDim S1x1 ![] bcast_S_S1x1 : (⟨S_, .f32⟩ : BufTy).Contents (Elt F) → (⟨S1x1, .f32⟩ : BufTy).Contents (Elt F)),
    StableHlo.nullary main_cst_4 (constant S_ .f32 0x00000000#32),
    StableHlo.unary main_cst_4 main_v26 (broadcastInDim S1x1 ![] bcast_S_S1x1 : (⟨S_, .f32⟩ : BufTy).Contents (Elt F) → (⟨S1x1, .f32⟩ : BufTy).Contents (Elt F)),
    StableHlo.unary main_arg2 main_v27 ((transpose S200x1x18 [1, 0, 2] · transposes_S1x200x18_S200x1x18_1_0_2) : (⟨S1x200x18, .f32⟩ : BufTy).Contents (Elt F) → (⟨S200x1x18, .f32⟩ : BufTy).Contents (Elt F)),
    StableHlo.nullary main_cst_5 (constant S_ .f32 0x00000000#32),
    StableHlo.unary main_cst_5 main_v28 (broadcastInDim S200x1x1 ![] bcast_S_S200x1x1 : (⟨S_, .f32⟩ : BufTy).Contents (Elt F) → (⟨S200x1x1, .f32⟩ : BufTy).Contents (Elt F)),
    StableHlo.nullary main_c_6 (constantI S_ 32 0#32),
    StableHlo.unary main_v27 main_v29_0 id,
    StableHlo.unary main_arg5 main_v29_1 id,
    StableHlo.unary main_arg7 main_v29_2 id,
    StableHlo.unary main_arg6 main_v29_3 id,
    StableHlo.unary main_arg8 main_v29_4 id,
    StableHlo.unary main_c_6 main_v29_5 id,
    StableHlo.unary main_v25 main_v29_6 id,
    StableHlo.unary main_v26 main_v29_7 id,
    StableHlo.unary main_v28 main_v29_8 id ]
/-- Each touches references of the core alone. -/
theorem opsA_2_sub : (opsA_2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The condition of loop 0. -/
abbrev condOps0 : List (HloOp τ sig (Elt F)) :=
  [ StableHlo.nullary main_while0c_c_19 (constantI S_ 32 200#32),
    StableHlo.binary main_v29_5 main_while0c_c_19 main_while0c_v44 (cmpi .slt : (⟨S_, .i32⟩ : BufTy).Contents (Elt F) → (⟨S_, .i32⟩ : BufTy).Contents (Elt F) → (⟨S_, .i1⟩ : BufTy).Contents (Elt F)) ]
/-- Each touches references of the core alone. -/
theorem condOps0_sub : (condOps0 : List (HloOp τ sig (Elt F))).Forall fun op => op.bufs ⊆ StableHlo.tcRefs τ sig :=
  ⟨StableHlo.nullary_bufs_sub .., StableHlo.binary_bufs_sub ..⟩

/-- The body of loop 0, stretch 0. -/
abbrev bodyOps0_0 : List (HloOp τ sig (Elt F)) :=
  [ StableHlo.nullary main_while0b_call1_c (constantI S_ 32 0#32),
    StableHlo.nullary main_while0b_call1_c_0 (constantI S_ 32 0#32),
    StableHlo.TRef.unaryIndexed (Val := Elt F) (T := ⟨S_, .i32⟩) (Ta := ⟨S200x1x18, .f32⟩) (Ty := ⟨S1x1x18, .f32⟩) (.of main_v29_0) ![(.of main_v29_5), (.of main_while0b_call1_c), (.of main_while0b_call1_c_0)] (.of main_while0b_call1_v0) (fun x i => Host.dynamicSlice S1x1x18 x (fun k => (i k (Shape.Idx.first h_S_)).toInt) sliceFits_S200x1x18_S1x1x18),
    StableHlo.reshape main_while0b_call1_v0 main_while0b_v44 (rfl : (.f32 : EltTy) = .f32) shapeCasts_S1x1x18_S1x18 ]
/-- Each touches references of the core alone. -/
theorem bodyOps0_0_sub : (bodyOps0_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The body of loop 0, stretch 1. -/
abbrev bodyOps0_1 : List (HloOp τ sig (Elt F)) :=
  [ StableHlo.unary main_v29_1 main_while0b_v45 ((transpose S18x4 [1, 0] · transposes_S4x18_S18x4_1_0) : (⟨S4x18, .f32⟩ : BufTy).Contents (Elt F) → (⟨S18x4, .f32⟩ : BufTy).Contents (Elt F)),
    StableHlo.binary main_while0b_v44 main_while0b_v45 main_while0b_v46 ((fun l r => Host.dotGeneral dot_S1x18_S18x4_S1x4_1_0_0_1_n_n none l r) : (⟨S1x18, .f32⟩ : BufTy).Contents (Elt F) → (⟨S18x4, .f32⟩ : BufTy).Contents (Elt F) → (⟨S1x4, .f32⟩ : BufTy).Contents (Elt F)),
    StableHlo.unary main_v29_2 main_while0b_v47 (broadcastInDim S1x4 ![1] bcast_S4_S1x4_1 : (⟨S4, .f32⟩ : BufTy).Contents (Elt F) → (⟨S1x4, .f32⟩ : BufTy).Contents (Elt F)),
    StableHlo.binary main_while0b_v46 main_while0b_v47 main_while0b_v48 (addf : (⟨S1x4, .f32⟩ : BufTy).Contents (Elt F) → (⟨S1x4, .f32⟩ : BufTy).Contents (Elt F) → (⟨S1x4, .f32⟩ : BufTy).Contents (Elt F)),
    StableHlo.unary main_v29_3 main_while0b_v49 ((transpose S1x4 [1, 0] · transposes_S4x1_S1x4_1_0) : (⟨S4x1, .f32⟩ : BufTy).Contents (Elt F) → (⟨S1x4, .f32⟩ : BufTy).Contents (Elt F)),
    StableHlo.binary main_v29_6 main_while0b_v49 main_while0b_v50 ((fun l r => Host.dotGeneral dot_S1x1_S1x4_S1x4_1_0_0_1_n_n none l r) : (⟨S1x1, .f32⟩ : BufTy).Contents (Elt F) → (⟨S1x4, .f32⟩ : BufTy).Contents (Elt F) → (⟨S1x4, .f32⟩ : BufTy).Contents (Elt F)),
    StableHlo.binary main_while0b_v48 main_while0b_v50 main_while0b_v51 (addf : (⟨S1x4, .f32⟩ : BufTy).Contents (Elt F) → (⟨S1x4, .f32⟩ : BufTy).Contents (Elt F) → (⟨S1x4, .f32⟩ : BufTy).Contents (Elt F)),
    StableHlo.unary main_v29_4 main_while0b_v52 (broadcastInDim S1x4 ![1] bcast_S4_S1x4_1 : (⟨S4, .f32⟩ : BufTy).Contents (Elt F) → (⟨S1x4, .f32⟩ : BufTy).Contents (Elt F)),
    StableHlo.binary main_while0b_v51 main_while0b_v52 main_while0b_v53 (addf : (⟨S1x4, .f32⟩ : BufTy).Contents (Elt F) → (⟨S1x4, .f32⟩ : BufTy).Contents (Elt F) → (⟨S1x4, .f32⟩ : BufTy).Contents (Elt F)),
    StableHlo.unary main_while0b_v53 main_while0b_v54 ((extractStridedSlice S1x1 ![0, 0] · slices_S1x4_S1x1_0_0) : (⟨S1x4, .f32⟩ : BufTy).Contents (Elt F) → (⟨S1x1, .f32⟩ : BufTy).Contents (Elt F)),
    StableHlo.unary main_while0b_v53 main_while0b_v55 ((extractStridedSlice S1x1 ![0, 1] · slices_S1x4_S1x1_0_1) : (⟨S1x4, .f32⟩ : BufTy).Contents (Elt F) → (⟨S1x1, .f32⟩ : BufTy).Contents (Elt F)),
    StableHlo.unary main_while0b_v53 main_while0b_v56 ((extractStridedSlice S1x1 ![0, 2] · slices_S1x4_S1x1_0_2) : (⟨S1x4, .f32⟩ : BufTy).Contents (Elt F) → (⟨S1x1, .f32⟩ : BufTy).Contents (Elt F)),
    StableHlo.unary main_while0b_v53 main_while0b_v57 ((extractStridedSlice S1x1 ![0, 3] · slices_S1x4_S1x1_0_3) : (⟨S1x4, .f32⟩ : BufTy).Contents (Elt F) → (⟨S1x1, .f32⟩ : BufTy).Contents (Elt F)),
    StableHlo.unary main_while0b_v54 main_while0b_v58 (Host.negf : (⟨S1x1, .f32⟩ : BufTy).Contents (Elt F) → (⟨S1x1, .f32⟩ : BufTy).Contents (Elt F)),
    StableHlo.unary main_while0b_v58 main_while0b_v59 (Host.exp : (⟨S1x1, .f32⟩ : BufTy).Contents (Elt F) → (⟨S1x1, .f32⟩ : BufTy).Contents (Elt F)),
    StableHlo.nullary main_while0b_cst_19 (constant S_ .f32 0x3F800000#32),
    StableHlo.unary main_while0b_cst_19 main_while0b_v60 (broadcastInDim S1x1 ![] bcast_S_S1x1 : (⟨S_, .f32⟩ : BufTy).Contents (Elt F) → (⟨S1x1, .f32⟩ : BufTy).Contents (Elt F)),
    StableHlo.binary main_while0b_v60 main_while0b_v59 main_while0b_v61 (addf : (⟨S1x1, .f32⟩ : BufTy).Contents (Elt F) → (⟨S1x1, .f32⟩ : BufTy).Contents (Elt F) → (⟨S1x1, .f32⟩ : BufTy).Contents (Elt F)),
    StableHlo.nullary main_while0b_cst_20 (constant S_ .f32 0x3F800000#32),
    StableHlo.unary main_while0b_cst_20 main_while0b_v62 (broadcastInDim S1x1 ![] bcast_S_S1x1 : (⟨S_, .f32⟩ : BufTy).Contents (Elt F) → (⟨S1x1, .f32⟩ : BufTy).Contents (Elt F)),
    StableHlo.binary main_while0b_v62 main_while0b_v61 main_while0b_v63 (Host.divf : (⟨S1x1, .f32⟩ : BufTy).Contents (Elt F) → (⟨S1x1, .f32⟩ : BufTy).Contents (Elt F) → (⟨S1x1, .f32⟩ : BufTy).Contents (Elt F)),
    StableHlo.unary main_while0b_v55 main_while0b_v64 (Host.negf : (⟨S1x1, .f32⟩ : BufTy).Contents (Elt F) → (⟨S1x1, .f32⟩ : BufTy).Contents (Elt F)),
    StableHlo.unary main_while0b_v64 main_while0b_v65 (Host.exp : (⟨S1x1, .f32⟩ : BufTy).Contents (Elt F) → (⟨S1x1, .f32⟩ : BufTy).Contents (Elt F)),
    StableHlo.nullary main_while0b_cst_21 (constant S_ .f32 0x3F800000#32),
    StableHlo.unary main_while0b_cst_21 main_while0b_v66 (broadcastInDim S1x1 ![] bcast_S_S1x1 : (⟨S_, .f32⟩ : BufTy).Contents (Elt F) → (⟨S1x1, .f32⟩ : BufTy).Contents (Elt F)),
    StableHlo.binary main_while0b_v66 main_while0b_v65 main_while0b_v67 (addf : (⟨S1x1, .f32⟩ : BufTy).Contents (Elt F) → (⟨S1x1, .f32⟩ : BufTy).Contents (Elt F) → (⟨S1x1, .f32⟩ : BufTy).Contents (Elt F)),
    StableHlo.nullary main_while0b_cst_22 (constant S_ .f32 0x3F800000#32),
    StableHlo.unary main_while0b_cst_22 main_while0b_v68 (broadcastInDim S1x1 ![] bcast_S_S1x1 : (⟨S_, .f32⟩ : BufTy).Contents (Elt F) → (⟨S1x1, .f32⟩ : BufTy).Contents (Elt F)),
    StableHlo.binary main_while0b_v68 main_while0b_v67 main_while0b_v69 (Host.divf : (⟨S1x1, .f32⟩ : BufTy).Contents (Elt F) → (⟨S1x1, .f32⟩ : BufTy).Contents (Elt F) → (⟨S1x1, .f32⟩ : BufTy).Contents (Elt F)),
    StableHlo.unary main_while0b_v56 main_while0b_v70 (Host.tanh : (⟨S1x1, .f32⟩ : BufTy).Contents (Elt F) → (⟨S1x1, .f32⟩ : BufTy).Contents (Elt F)),
    StableHlo.unary main_while0b_v57 main_while0b_v71 (Host.negf : (⟨S1x1, .f32⟩ : BufTy).Contents (Elt F) → (⟨S1x1, .f32⟩ : BufTy).Contents (Elt F)),
    StableHlo.unary main_while0b_v71 main_while0b_v72 (Host.exp : (⟨S1x1, .f32⟩ : BufTy).Contents (Elt F) → (⟨S1x1, .f32⟩ : BufTy).Contents (Elt F)),
    StableHlo.nullary main_while0b_cst_23 (constant S_ .f32 0x3F800000#32),
    StableHlo.unary main_while0b_cst_23 main_while0b_v73 (broadcastInDim S1x1 ![] bcast_S_S1x1 : (⟨S_, .f32⟩ : BufTy).Contents (Elt F) → (⟨S1x1, .f32⟩ : BufTy).Contents (Elt F)),
    StableHlo.binary main_while0b_v73 main_while0b_v72 main_while0b_v74 (addf : (⟨S1x1, .f32⟩ : BufTy).Contents (Elt F) → (⟨S1x1, .f32⟩ : BufTy).Contents (Elt F) → (⟨S1x1, .f32⟩ : BufTy).Contents (Elt F)),
    StableHlo.nullary main_while0b_cst_24 (constant S_ .f32 0x3F800000#32),
    StableHlo.unary main_while0b_cst_24 main_while0b_v75 (broadcastInDim S1x1 ![] bcast_S_S1x1 : (⟨S_, .f32⟩ : BufTy).Contents (Elt F) → (⟨S1x1, .f32⟩ : BufTy).Contents (Elt F)),
    StableHlo.binary main_while0b_v75 main_while0b_v74 main_while0b_v76 (Host.divf : (⟨S1x1, .f32⟩ : BufTy).Contents (Elt F) → (⟨S1x1, .f32⟩ : BufTy).Contents (Elt F) → (⟨S1x1, .f32⟩ : BufTy).Contents (Elt F)),
    StableHlo.binary main_while0b_v69 main_v29_7 main_while0b_v77 (mulf : (⟨S1x1, .f32⟩ : BufTy).Contents (Elt F) → (⟨S1x1, .f32⟩ : BufTy).Contents (Elt F) → (⟨S1x1, .f32⟩ : BufTy).Contents (Elt F)),
    StableHlo.binary main_while0b_v63 main_while0b_v70 main_while0b_v78 (mulf : (⟨S1x1, .f32⟩ : BufTy).Contents (Elt F) → (⟨S1x1, .f32⟩ : BufTy).Contents (Elt F) → (⟨S1x1, .f32⟩ : BufTy).Contents (Elt F)),
    StableHlo.binary main_while0b_v77 main_while0b_v78 main_while0b_v79 (addf : (⟨S1x1, .f32⟩ : BufTy).Contents (Elt F) → (⟨S1x1, .f32⟩ : BufTy).Contents (Elt F) → (⟨S1x1, .f32⟩ : BufTy).Contents (Elt F)),
    StableHlo.unary main_while0b_v79 main_while0b_v80 (Host.tanh : (⟨S1x1, .f32⟩ : BufTy).Contents (Elt F) → (⟨S1x1, .f32⟩ : BufTy).Contents (Elt F)),
    StableHlo.binary main_while0b_v76 main_while0b_v80 main_while0b_v81 (mulf : (⟨S1x1, .f32⟩ : BufTy).Contents (Elt F) → (⟨S1x1, .f32⟩ : BufTy).Contents (Elt F) → (⟨S1x1, .f32⟩ : BufTy).Contents (Elt F)) ]
/-- Each touches references of the core alone. -/
theorem bodyOps0_1_sub : (bodyOps0_1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- The body of loop 0, stretch 2. -/
abbrev bodyOps0_2 : List (HloOp τ sig (Elt F)) :=
  [ StableHlo.unary main_while0b_v81 main_while0b_call2_v0 ((broadcastInDim S1x1x1 ![1, 2] bcast_S1x1_S1x1x1_1_2) : (⟨S1x1, .f32⟩ : BufTy).Contents (Elt F) → (⟨S1x1x1, .f32⟩ : BufTy).Contents (Elt F)),
    StableHlo.nullary main_while0b_call2_c (constantI S_ 32 0#32),
    StableHlo.nullary main_while0b_call2_c_0 (constantI S_ 32 0#32),
    StableHlo.TRef.binaryIndexed (Val := Elt F) (T := ⟨S_, .i32⟩) (Ta := ⟨S200x1x1, .f32⟩) (Ty := ⟨S200x1x1, .f32⟩) (Tb := ⟨S1x1x1, .f32⟩) (.of main_v29_8) (.of main_while0b_call2_v0) ![(.of main_v29_5), (.of main_while0b_call2_c), (.of main_while0b_call2_c_0)] (.of main_while0b_v82) (fun x u i => Host.dynamicUpdateSlice x u (fun k => (i k (Shape.Idx.first h_S_)).toInt) updateFits_S200x1x1_S1x1x1) ]
/-- Each touches references of the core alone. -/
theorem bodyOps0_2_sub : (bodyOps0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- The body of loop 0, stretch 3. -/
abbrev bodyOps0_3 : List (HloOp τ sig (Elt F)) :=
  [ StableHlo.nullary main_while0b_c_25 (constantI S_ 32 1#32),
    StableHlo.binary main_v29_5 main_while0b_c_25 main_while0b_v83 (addi : (⟨S_, .i32⟩ : BufTy).Contents (Elt F) → (⟨S_, .i32⟩ : BufTy).Contents (Elt F) → (⟨S_, .i32⟩ : BufTy).Contents (Elt F)),
    StableHlo.unary main_while0b_v83 main_v29_5 id,
    StableHlo.unary main_while0b_v81 main_v29_6 id,
    StableHlo.unary main_while0b_v79 main_v29_7 id,
    StableHlo.unary main_while0b_v82 main_v29_8 id ]
/-- Each touches references of the core alone. -/
theorem bodyOps0_3_sub : (bodyOps0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The condition of loop 1. -/
abbrev condOps1 : List (HloOp τ sig (Elt F)) :=
  [ StableHlo.nullary main_while1c_c_19 (constantI S_ 32 200#32),
    StableHlo.binary main_v35_5 main_while1c_c_19 main_while1c_v44 (cmpi .slt : (⟨S_, .i32⟩ : BufTy).Contents (Elt F) → (⟨S_, .i32⟩ : BufTy).Contents (Elt F) → (⟨S_, .i1⟩ : BufTy).Contents (Elt F)) ]
/-- Each touches references of the core alone. -/
theorem condOps1_sub : (condOps1 : List (HloOp τ sig (Elt F))).Forall fun op => op.bufs ⊆ StableHlo.tcRefs τ sig :=
  ⟨StableHlo.nullary_bufs_sub .., StableHlo.binary_bufs_sub ..⟩

/-- The body of loop 1, stretch 0. -/
abbrev bodyOps1_0 : List (HloOp τ sig (Elt F)) :=
  [ StableHlo.nullary main_while1b_call3_c (constantI S_ 32 0#32),
    StableHlo.nullary main_while1b_call3_c_0 (constantI S_ 32 0#32),
    StableHlo.TRef.unaryIndexed (Val := Elt F) (T := ⟨S_, .i32⟩) (Ta := ⟨S200x1x1, .f32⟩) (Ty := ⟨S1x1x1, .f32⟩) (.of main_v35_0) ![(.of main_v35_5), (.of main_while1b_call3_c), (.of main_while1b_call3_c_0)] (.of main_while1b_call3_v0) (fun x i => Host.dynamicSlice S1x1x1 x (fun k => (i k (Shape.Idx.first h_S_)).toInt) sliceFits_S200x1x1_S1x1x1),
    StableHlo.reshape main_while1b_call3_v0 main_while1b_v44 (rfl : (.f32 : EltTy) = .f32) shapeCasts_S1x1x1_S1x1 ]
/-- Each touches references of the core alone. -/
theorem bodyOps1_0_sub : (bodyOps1_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The body of loop 1, stretch 1. -/
abbrev bodyOps1_1 : List (HloOp τ sig (Elt F)) :=
  [ StableHlo.unary main_v35_1 main_while1b_v45 ((transpose S1x4 [1, 0] · transposes_S4x1_S1x4_1_0) : (⟨S4x1, .f32⟩ : BufTy).Contents (Elt F) → (⟨S1x4, .f32⟩ : BufTy).Contents (Elt F)),
    StableHlo.binary main_while1b_v44 main_while1b_v45 main_while1b_v46 ((fun l r => Host.dotGeneral dot_S1x1_S1x4_S1x4_1_0_0_1_n_n none l r) : (⟨S1x1, .f32⟩ : BufTy).Contents (Elt F) → (⟨S1x4, .f32⟩ : BufTy).Contents (Elt F) → (⟨S1x4, .f32⟩ : BufTy).Contents (Elt F)),
    StableHlo.unary main_v35_2 main_while1b_v47 (broadcastInDim S1x4 ![1] bcast_S4_S1x4_1 : (⟨S4, .f32⟩ : BufTy).Contents (Elt F) → (⟨S1x4, .f32⟩ : BufTy).Contents (Elt F)),
    StableHlo.binary main_while1b_v46 main_while1b_v47 main_while1b_v48 (addf : (⟨S1x4, .f32⟩ : BufTy).Contents (Elt F) → (⟨S1x4, .f32⟩ : BufTy).Contents (Elt F) → (⟨S1x4, .f32⟩ : BufTy).Contents (Elt F)),
    StableHlo.unary main_v35_3 main_while1b_v49 ((transpose S1x4 [1, 0] · transposes_S4x1_S1x4_1_0) : (⟨S4x1, .f32⟩ : BufTy).Contents (Elt F) → (⟨S1x4, .f32⟩ : BufTy).Contents (Elt F)),
    StableHlo.binary main_v35_6 main_while1b_v49 main_while1b_v50 ((fun l r => Host.dotGeneral dot_S1x1_S1x4_S1x4_1_0_0_1_n_n none l r) : (⟨S1x1, .f32⟩ : BufTy).Contents (Elt F) → (⟨S1x4, .f32⟩ : BufTy).Contents (Elt F) → (⟨S1x4, .f32⟩ : BufTy).Contents (Elt F)),
    StableHlo.binary main_while1b_v48 main_while1b_v50 main_while1b_v51 (addf : (⟨S1x4, .f32⟩ : BufTy).Contents (Elt F) → (⟨S1x4, .f32⟩ : BufTy).Contents (Elt F) → (⟨S1x4, .f32⟩ : BufTy).Contents (Elt F)),
    StableHlo.unary main_v35_4 main_while1b_v52 (broadcastInDim S1x4 ![1] bcast_S4_S1x4_1 : (⟨S4, .f32⟩ : BufTy).Contents (Elt F) → (⟨S1x4, .f32⟩ : BufTy).Contents (Elt F)),
    StableHlo.binary main_while1b_v51 main_while1b_v52 main_while1b_v53 (addf : (⟨S1x4, .f32⟩ : BufTy).Contents (Elt F) → (⟨S1x4, .f32⟩ : BufTy).Contents (Elt F) → (⟨S1x4, .f32⟩ : BufTy).Contents (Elt F)),
    StableHlo.unary main_while1b_v53 main_while1b_v54 ((extractStridedSlice S1x1 ![0, 0] · slices_S1x4_S1x1_0_0) : (⟨S1x4, .f32⟩ : BufTy).Contents (Elt F) → (⟨S1x1, .f32⟩ : BufTy).Contents (Elt F)),
    StableHlo.unary main_while1b_v53 main_while1b_v55 ((extractStridedSlice S1x1 ![0, 1] · slices_S1x4_S1x1_0_1) : (⟨S1x4, .f32⟩ : BufTy).Contents (Elt F) → (⟨S1x1, .f32⟩ : BufTy).Contents (Elt F)),
    StableHlo.unary main_while1b_v53 main_while1b_v56 ((extractStridedSlice S1x1 ![0, 2] · slices_S1x4_S1x1_0_2) : (⟨S1x4, .f32⟩ : BufTy).Contents (Elt F) → (⟨S1x1, .f32⟩ : BufTy).Contents (Elt F)),
    StableHlo.unary main_while1b_v53 main_while1b_v57 ((extractStridedSlice S1x1 ![0, 3] · slices_S1x4_S1x1_0_3) : (⟨S1x4, .f32⟩ : BufTy).Contents (Elt F) → (⟨S1x1, .f32⟩ : BufTy).Contents (Elt F)),
    StableHlo.unary main_while1b_v54 main_while1b_v58 (Host.negf : (⟨S1x1, .f32⟩ : BufTy).Contents (Elt F) → (⟨S1x1, .f32⟩ : BufTy).Contents (Elt F)),
    StableHlo.unary main_while1b_v58 main_while1b_v59 (Host.exp : (⟨S1x1, .f32⟩ : BufTy).Contents (Elt F) → (⟨S1x1, .f32⟩ : BufTy).Contents (Elt F)),
    StableHlo.nullary main_while1b_cst_19 (constant S_ .f32 0x3F800000#32),
    StableHlo.unary main_while1b_cst_19 main_while1b_v60 (broadcastInDim S1x1 ![] bcast_S_S1x1 : (⟨S_, .f32⟩ : BufTy).Contents (Elt F) → (⟨S1x1, .f32⟩ : BufTy).Contents (Elt F)),
    StableHlo.binary main_while1b_v60 main_while1b_v59 main_while1b_v61 (addf : (⟨S1x1, .f32⟩ : BufTy).Contents (Elt F) → (⟨S1x1, .f32⟩ : BufTy).Contents (Elt F) → (⟨S1x1, .f32⟩ : BufTy).Contents (Elt F)),
    StableHlo.nullary main_while1b_cst_20 (constant S_ .f32 0x3F800000#32),
    StableHlo.unary main_while1b_cst_20 main_while1b_v62 (broadcastInDim S1x1 ![] bcast_S_S1x1 : (⟨S_, .f32⟩ : BufTy).Contents (Elt F) → (⟨S1x1, .f32⟩ : BufTy).Contents (Elt F)),
    StableHlo.binary main_while1b_v62 main_while1b_v61 main_while1b_v63 (Host.divf : (⟨S1x1, .f32⟩ : BufTy).Contents (Elt F) → (⟨S1x1, .f32⟩ : BufTy).Contents (Elt F) → (⟨S1x1, .f32⟩ : BufTy).Contents (Elt F)),
    StableHlo.unary main_while1b_v55 main_while1b_v64 (Host.negf : (⟨S1x1, .f32⟩ : BufTy).Contents (Elt F) → (⟨S1x1, .f32⟩ : BufTy).Contents (Elt F)),
    StableHlo.unary main_while1b_v64 main_while1b_v65 (Host.exp : (⟨S1x1, .f32⟩ : BufTy).Contents (Elt F) → (⟨S1x1, .f32⟩ : BufTy).Contents (Elt F)),
    StableHlo.nullary main_while1b_cst_21 (constant S_ .f32 0x3F800000#32),
    StableHlo.unary main_while1b_cst_21 main_while1b_v66 (broadcastInDim S1x1 ![] bcast_S_S1x1 : (⟨S_, .f32⟩ : BufTy).Contents (Elt F) → (⟨S1x1, .f32⟩ : BufTy).Contents (Elt F)),
    StableHlo.binary main_while1b_v66 main_while1b_v65 main_while1b_v67 (addf : (⟨S1x1, .f32⟩ : BufTy).Contents (Elt F) → (⟨S1x1, .f32⟩ : BufTy).Contents (Elt F) → (⟨S1x1, .f32⟩ : BufTy).Contents (Elt F)),
    StableHlo.nullary main_while1b_cst_22 (constant S_ .f32 0x3F800000#32),
    StableHlo.unary main_while1b_cst_22 main_while1b_v68 (broadcastInDim S1x1 ![] bcast_S_S1x1 : (⟨S_, .f32⟩ : BufTy).Contents (Elt F) → (⟨S1x1, .f32⟩ : BufTy).Contents (Elt F)),
    StableHlo.binary main_while1b_v68 main_while1b_v67 main_while1b_v69 (Host.divf : (⟨S1x1, .f32⟩ : BufTy).Contents (Elt F) → (⟨S1x1, .f32⟩ : BufTy).Contents (Elt F) → (⟨S1x1, .f32⟩ : BufTy).Contents (Elt F)),
    StableHlo.unary main_while1b_v56 main_while1b_v70 (Host.tanh : (⟨S1x1, .f32⟩ : BufTy).Contents (Elt F) → (⟨S1x1, .f32⟩ : BufTy).Contents (Elt F)),
    StableHlo.unary main_while1b_v57 main_while1b_v71 (Host.negf : (⟨S1x1, .f32⟩ : BufTy).Contents (Elt F) → (⟨S1x1, .f32⟩ : BufTy).Contents (Elt F)),
    StableHlo.unary main_while1b_v71 main_while1b_v72 (Host.exp : (⟨S1x1, .f32⟩ : BufTy).Contents (Elt F) → (⟨S1x1, .f32⟩ : BufTy).Contents (Elt F)),
    StableHlo.nullary main_while1b_cst_23 (constant S_ .f32 0x3F800000#32),
    StableHlo.unary main_while1b_cst_23 main_while1b_v73 (broadcastInDim S1x1 ![] bcast_S_S1x1 : (⟨S_, .f32⟩ : BufTy).Contents (Elt F) → (⟨S1x1, .f32⟩ : BufTy).Contents (Elt F)),
    StableHlo.binary main_while1b_v73 main_while1b_v72 main_while1b_v74 (addf : (⟨S1x1, .f32⟩ : BufTy).Contents (Elt F) → (⟨S1x1, .f32⟩ : BufTy).Contents (Elt F) → (⟨S1x1, .f32⟩ : BufTy).Contents (Elt F)),
    StableHlo.nullary main_while1b_cst_24 (constant S_ .f32 0x3F800000#32),
    StableHlo.unary main_while1b_cst_24 main_while1b_v75 (broadcastInDim S1x1 ![] bcast_S_S1x1 : (⟨S_, .f32⟩ : BufTy).Contents (Elt F) → (⟨S1x1, .f32⟩ : BufTy).Contents (Elt F)),
    StableHlo.binary main_while1b_v75 main_while1b_v74 main_while1b_v76 (Host.divf : (⟨S1x1, .f32⟩ : BufTy).Contents (Elt F) → (⟨S1x1, .f32⟩ : BufTy).Contents (Elt F) → (⟨S1x1, .f32⟩ : BufTy).Contents (Elt F)),
    StableHlo.binary main_while1b_v69 main_v35_7 main_while1b_v77 (mulf : (⟨S1x1, .f32⟩ : BufTy).Contents (Elt F) → (⟨S1x1, .f32⟩ : BufTy).Contents (Elt F) → (⟨S1x1, .f32⟩ : BufTy).Contents (Elt F)),
    StableHlo.binary main_while1b_v63 main_while1b_v70 main_while1b_v78 (mulf : (⟨S1x1, .f32⟩ : BufTy).Contents (Elt F) → (⟨S1x1, .f32⟩ : BufTy).Contents (Elt F) → (⟨S1x1, .f32⟩ : BufTy).Contents (Elt F)),
    StableHlo.binary main_while1b_v77 main_while1b_v78 main_while1b_v79 (addf : (⟨S1x1, .f32⟩ : BufTy).Contents (Elt F) → (⟨S1x1, .f32⟩ : BufTy).Contents (Elt F) → (⟨S1x1, .f32⟩ : BufTy).Contents (Elt F)),
    StableHlo.unary main_while1b_v79 main_while1b_v80 (Host.tanh : (⟨S1x1, .f32⟩ : BufTy).Contents (Elt F) → (⟨S1x1, .f32⟩ : BufTy).Contents (Elt F)),
    StableHlo.binary main_while1b_v76 main_while1b_v80 main_while1b_v81 (mulf : (⟨S1x1, .f32⟩ : BufTy).Contents (Elt F) → (⟨S1x1, .f32⟩ : BufTy).Contents (Elt F) → (⟨S1x1, .f32⟩ : BufTy).Contents (Elt F)) ]
/-- Each touches references of the core alone. -/
theorem bodyOps1_1_sub : (bodyOps1_1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- The body of loop 1, stretch 2. -/
abbrev bodyOps1_2 : List (HloOp τ sig (Elt F)) :=
  [ StableHlo.unary main_while1b_v81 main_while1b_call4_v0 ((broadcastInDim S1x1x1 ![1, 2] bcast_S1x1_S1x1x1_1_2) : (⟨S1x1, .f32⟩ : BufTy).Contents (Elt F) → (⟨S1x1x1, .f32⟩ : BufTy).Contents (Elt F)),
    StableHlo.nullary main_while1b_call4_c (constantI S_ 32 0#32),
    StableHlo.nullary main_while1b_call4_c_0 (constantI S_ 32 0#32),
    StableHlo.TRef.binaryIndexed (Val := Elt F) (T := ⟨S_, .i32⟩) (Ta := ⟨S200x1x1, .f32⟩) (Ty := ⟨S200x1x1, .f32⟩) (Tb := ⟨S1x1x1, .f32⟩) (.of main_v35_8) (.of main_while1b_call4_v0) ![(.of main_v35_5), (.of main_while1b_call4_c), (.of main_while1b_call4_c_0)] (.of main_while1b_v82) (fun x u i => Host.dynamicUpdateSlice x u (fun k => (i k (Shape.Idx.first h_S_)).toInt) updateFits_S200x1x1_S1x1x1) ]
/-- Each touches references of the core alone. -/
theorem bodyOps1_2_sub : (bodyOps1_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- The body of loop 1, stretch 3. -/
abbrev bodyOps1_3 : List (HloOp τ sig (Elt F)) :=
  [ StableHlo.nullary main_while1b_c_25 (constantI S_ 32 1#32),
    StableHlo.binary main_v35_5 main_while1b_c_25 main_while1b_v83 (addi : (⟨S_, .i32⟩ : BufTy).Contents (Elt F) → (⟨S_, .i32⟩ : BufTy).Contents (Elt F) → (⟨S_, .i32⟩ : BufTy).Contents (Elt F)),
    StableHlo.unary main_while1b_v83 main_v35_5 id,
    StableHlo.unary main_while1b_v81 main_v35_6 id,
    StableHlo.unary main_while1b_v79 main_v35_7 id,
    StableHlo.unary main_while1b_v82 main_v35_8 id ]
/-- Each touches references of the core alone. -/
theorem bodyOps1_3_sub : (bodyOps1_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The operations between the loops. -/
abbrev opsB_0 : List (HloOp τ sig (Elt F)) :=
  [ StableHlo.unary main_v29_8 main_v30 ((transpose S1x200x1 [1, 0, 2] · transposes_S200x1x1_S1x200x1_1_0_2) : (⟨S200x1x1, .f32⟩ : BufTy).Contents (Elt F) → (⟨S1x200x1, .f32⟩ : BufTy).Contents (Elt F)),
    StableHlo.nullary main_cst_7 (constant S_ .f32 0x00000000#32),
    StableHlo.unary main_cst_7 main_v31 (broadcastInDim S1x1 ![] bcast_S_S1x1 : (⟨S_, .f32⟩ : BufTy).Contents (Elt F) → (⟨S1x1, .f32⟩ : BufTy).Contents (Elt F)),
    StableHlo.nullary main_cst_8 (constant S_ .f32 0x00000000#32),
    StableHlo.unary main_cst_8 main_v32 (broadcastInDim S1x1 ![] bcast_S_S1x1 : (⟨S_, .f32⟩ : BufTy).Contents (Elt F) → (⟨S1x1, .f32⟩ : BufTy).Contents (Elt F)),
    StableHlo.unary main_v30 main_v33 ((transpose S200x1x1 [1, 0, 2] · transposes_S1x200x1_S200x1x1_1_0_2) : (⟨S1x200x1, .f32⟩ : BufTy).Contents (Elt F) → (⟨S200x1x1, .f32⟩ : BufTy).Contents (Elt F)),
    StableHlo.nullary main_cst_9 (constant S_ .f32 0x00000000#32),
    StableHlo.unary main_cst_9 main_v34 (broadcastInDim S200x1x1 ![] bcast_S_S200x1x1 : (⟨S_, .f32⟩ : BufTy).Contents (Elt F) → (⟨S200x1x1, .f32⟩ : BufTy).Contents (Elt F)),
    StableHlo.nullary main_c_10 (constantI S_ 32 0#32),
    StableHlo.unary main_v33 main_v35_0 id,
    StableHlo.unary main_arg9 main_v35_1 id,
    StableHlo.unary main_arg11 main_v35_2 id,
    StableHlo.unary main_arg10 main_v35_3 id,
    StableHlo.unary main_arg12 main_v35_4 id,
    StableHlo.unary main_c_10 main_v35_5 id,
    StableHlo.unary main_v31 main_v35_6 id,
    StableHlo.unary main_v32 main_v35_7 id,
    StableHlo.unary main_v34 main_v35_8 id ]
/-- Each touches references of the core alone. -/
theorem opsB_0_sub : (opsB_0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The operations after the second loop. -/
abbrev opsC_0 : List (HloOp τ sig (Elt F)) :=
  [ StableHlo.unary main_v35_8 main_v36 ((transpose S1x200x1 [1, 0, 2] · transposes_S200x1x1_S1x200x1_1_0_2) : (⟨S200x1x1, .f32⟩ : BufTy).Contents (Elt F) → (⟨S1x200x1, .f32⟩ : BufTy).Contents (Elt F)),
    StableHlo.unary main_v36 main_v37 ((extractStridedSlice S1x1x1 ![0, 199, 0] · slices_S1x200x1_S1x1x1_0_199_0) : (⟨S1x200x1, .f32⟩ : BufTy).Contents (Elt F) → (⟨S1x1x1, .f32⟩ : BufTy).Contents (Elt F)),
    StableHlo.reshape main_v37 main_v38 (rfl : (.f32 : EltTy) = .f32) shapeCasts_S1x1x1_S1x1,
    StableHlo.binary main_v24 main_v38 main_v39 ((fun a b => concatenate S1x2 1 [⟨S1x1, a⟩, ⟨S1x1, b⟩] concatenates_S1x1_S1x1_S1x2_d1) : (⟨S1x1, .f32⟩ : BufTy).Contents (Elt F) → (⟨S1x1, .f32⟩ : BufTy).Contents (Elt F) → (⟨S1x2, .f32⟩ : BufTy).Contents (Elt F)),
    StableHlo.unary main_arg13 main_v40 ((transpose S2x1 [1, 0] · transposes_S1x2_S2x1_1_0) : (⟨S1x2, .f32⟩ : BufTy).Contents (Elt F) → (⟨S2x1, .f32⟩ : BufTy).Contents (Elt F)),
    StableHlo.binary main_v39 main_v40 main_v41 ((fun l r => Host.dotGeneral dot_S1x2_S2x1_S1x1_1_0_0_1_n_n none l r) : (⟨S1x2, .f32⟩ : BufTy).Contents (Elt F) → (⟨S2x1, .f32⟩ : BufTy).Contents (Elt F) → (⟨S1x1, .f32⟩ : BufTy).Contents (Elt F)),
    StableHlo.unary main_arg14 main_v42 (broadcastInDim S1x1 ![1] bcast_S1_S1x1_1 : (⟨S1, .f32⟩ : BufTy).Contents (Elt F) → (⟨S1x1, .f32⟩ : BufTy).Contents (Elt F)),
    StableHlo.binary main_v41 main_v42 main_v43 (addf : (⟨S1x1, .f32⟩ : BufTy).Contents (Elt F) → (⟨S1x1, .f32⟩ : BufTy).Contents (Elt F) → (⟨S1x1, .f32⟩ : BufTy).Contents (Elt F)) ]
/-- Each touches references of the core alone. -/
theorem opsC_0_sub : (opsC_0 : List (HloOp τ sig (Elt F))).Forall fun op => op.bufs ⊆ StableHlo.tcRefs τ sig :=
  ⟨StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.binary_bufs_sub ..⟩

/-- The main function is its lists with the loops between them. -/
theorem main_chain (c : Dev nD) : main (F := F) c = (Pipeline.chain
    [ StableHlo.seq opsA_0, StableHlo.seq opsA_1, StableHlo.seq opsA_2, HostLoop.enter 0, StableHlo.seq opsB_0, HostLoop.enter 1, StableHlo.seq opsC_0 ] :
    Prog (TpuEff nD τ sig (Elt F) (HostLoop.Sig (Pipeline.Sig Λ₀ (Fin 0) fun p => (pcfgs (F := F) p).Adm) 2) .tc) PUnit) := by
  rewrite [StableHlo.chain_seq_cons, StableHlo.chain_seq_cons, StableHlo.chain_seq_cons, Pipeline.chain_cons, StableHlo.chain_seq_cons, Pipeline.chain_cons]
  chain_rfl

/-- The first loop's body is its lists, -/
theorem body0_chain : main_while0_body (F := F) = Pipeline.chain [StableHlo.seq bodyOps0_0, StableHlo.seq bodyOps0_1, StableHlo.seq bodyOps0_2, StableHlo.seq bodyOps0_3] := by
  rewrite [StableHlo.chain_seq_cons, StableHlo.chain_seq_cons, StableHlo.chain_seq_cons]
  chain_rfl
/-- and so is the second's. -/
theorem body1_chain : main_while1_body (F := F) = Pipeline.chain [StableHlo.seq bodyOps1_0, StableHlo.seq bodyOps1_1, StableHlo.seq bodyOps1_2, StableHlo.seq bodyOps1_3] := by
  rewrite [StableHlo.chain_seq_cons, StableHlo.chain_seq_cons, StableHlo.chain_seq_cons]
  chain_rfl

end Cert.Proof.Ref

end
-- ==== Proof.RefStep.lean ====
/-
  One trip of each of the reference's two loops: what it leaves in the buffers the loop carries, as a function of what
  they held. The two trips differ in how wide a row of the input is; the cell's update is shared.
-/
module

public import proofs.«01_k».proof.Proof.RefOps
public import Idealize.ShloMosaic.Lib.StableHlo.RunRead

@[expose] public section

set_option maxRecDepth 100000

noncomputable section

namespace Cert.Proof.Ref

open Cert.ReferenceIdeal Cert.ReferenceIdeal.Gen
open Idealize.ShloMosaic Idealize.ShloMosaic.TcCoe Idealize.ShloMosaic.Tactic
open Idealize.SL Idealize.SL.Sem
open StableHlo

variable {F : FTy → Type} [FloatOps F]

/-- The arrays of the shape `s` of floats. -/
abbrev Arr (F : FTy → Type) (s : Shape) : Type := (⟨s, .f32⟩ : BufTy).Contents (Elt F)
/-- A counter's array. -/
abbrev Ctr (F : FTy → Type) : Type := (⟨S_, .i32⟩ : BufTy).Contents (Elt F)

/-- The row of a sequence at the counter's position, for rows of 18 floats. -/
def row18 (xs : Arr F S200x1x18) (t : Ctr F) : Arr F S1x18 :=
  shapeCast S1x18 (Host.dynamicSlice S1x1x18 xs
    (fun k => ((![t, constantI S_ 32 0#32, constantI S_ 32 0#32] : Fin 3 → Ctr F) k (Shape.Idx.first h_S_)).toInt)
    sliceFits_S200x1x18_S1x1x18) shapeCasts_S1x1x18_S1x18

/-- The same for rows of one float. -/
def row1 (xs : Arr F S200x1x1) (t : Ctr F) : Arr F S1x1 :=
  shapeCast S1x1 (Host.dynamicSlice S1x1x1 xs
    (fun k => ((![t, constantI S_ 32 0#32, constantI S_ 32 0#32] : Fin 3 → Ctr F) k (Shape.Idx.first h_S_)).toInt)
    sliceFits_S200x1x1_S1x1x1) shapeCasts_S1x1x1_S1x1

/-- A sequence with its row at the counter's position replaced. -/
def putRow (ys : Arr F S200x1x1) (t : Ctr F) (h : Arr F S1x1) : Arr F S200x1x1 :=
  Host.dynamicUpdateSlice ys (broadcastInDim S1x1x1 ![1, 2] bcast_S1x1_S1x1x1_1_2 h)
    (fun k => ((![t, constantI S_ 32 0#32, constantI S_ 32 0#32] : Fin 3 → Ctr F) k (Shape.Idx.first h_S_)).toInt)
    updateFits_S200x1x1_S1x1x1

/-- The four gates before their nonlinearities: the input's share, the bias, the state's share and the second bias. -/
def gates (px : Arr F S1x4) (bih : Arr F S4) (whh : Arr F S4x1) (bhh : Arr F S4) (h : Arr F S1x1) : Arr F S1x4 :=
  addf (addf (addf px (broadcastInDim S1x4 ![1] bcast_S4_S1x4_1 bih))
      (Host.dotGeneral dot_S1x1_S1x4_S1x4_1_0_0_1_n_n none h (transpose S1x4 [1, 0] whh transposes_S4x1_S1x4_1_0)))
    (broadcastInDim S1x4 ![1] bcast_S4_S1x4_1 bhh)

/-- The input's share of the gates, for rows of 18 floats, -/
def share18 (x : Arr F S1x18) (wih : Arr F S4x18) : Arr F S1x4 :=
  Host.dotGeneral dot_S1x18_S18x4_S1x4_1_0_0_1_n_n none x (transpose S18x4 [1, 0] wih transposes_S4x18_S18x4_1_0)
/-- and for rows of one. -/
def share1 (x : Arr F S1x1) (wih : Arr F S4x1) : Arr F S1x4 :=
  Host.dotGeneral dot_S1x1_S1x4_S1x4_1_0_0_1_n_n none x (transpose S1x4 [1, 0] wih transposes_S4x1_S1x4_1_0)

/-- The constant one. -/
def one11 : Arr F S1x1 := broadcastInDim S1x1 ![] bcast_S_S1x1 (constant S_ .f32 0x3F800000#32)

/-- The logistic function as the reference computes it. -/
def logi (x : Arr F S1x1) : Arr F S1x1 := Host.divf one11 (addf one11 (Host.exp (Host.negf x)))

/-- The cell's next content from the gates. -/
def cellC (g : Arr F S1x4) (c : Arr F S1x1) : Arr F S1x1 :=
  addf (mulf (logi (extractStridedSlice S1x1 ![0, 1] g slices_S1x4_S1x1_0_1)) c)
    (mulf (logi (extractStridedSlice S1x1 ![0, 0] g slices_S1x4_S1x1_0_0))
      (Host.tanh (extractStridedSlice S1x1 ![0, 2] g slices_S1x4_S1x1_0_2)))

/-- The cell's output from the gates and its next content. -/
def cellH (g : Arr F S1x4) (c' : Arr F S1x1) : Arr F S1x1 :=
  mulf (logi (extractStridedSlice S1x1 ![0, 3] g slices_S1x4_S1x1_0_3)) (Host.tanh c')

/-- The stretches of the first loop's body, -/
abbrev body0 : List (List (HloOp τ sig (Elt F))) := [bodyOps0_0, bodyOps0_1, bodyOps0_2, bodyOps0_3]
/-- and of the second's. -/
abbrev body1 : List (List (HloOp τ sig (Elt F))) := [bodyOps1_0, bodyOps1_1, bodyOps1_2, bodyOps1_3]

/-- A trip of the first loop: its condition's operations, then its body's. -/
def step0 (V : Valuation τ sig (Elt F)) : Valuation τ sig (Elt F) := afterL body0 (after condOps0 V)
/-- A trip of the second. -/
def step1 (V : Valuation τ sig (Elt F)) : Valuation τ sig (Elt F) := afterL body1 (after condOps1 V)

/-- The gates of the first loop's trip. -/
def gates0 (V : Valuation τ sig (Elt F)) : Arr F S1x4 :=
  gates (share18 (row18 (V main_v29_0) (V main_v29_5)) (V main_v29_1)) (V main_v29_2) (V main_v29_3) (V main_v29_4) (V main_v29_6)
/-- The gates of the second's. -/
def gates1 (V : Valuation τ sig (Elt F)) : Arr F S1x4 :=
  gates (share1 (row1 (V main_v35_0) (V main_v35_5)) (V main_v35_1)) (V main_v35_2) (V main_v35_3) (V main_v35_4) (V main_v35_6)

variable (V : Valuation τ sig (Elt F))

/-! ### The first loop's trip, a stretch at a time -/

/-- The row read at the trip's counter. -/
theorem row0_eq : after bodyOps0_0 (after condOps0 V) main_while0b_v44 = row18 (V main_v29_0) (V main_v29_5) := by
  after_reads_simp
  unfold row18
  funext i
  refine congrFun (congrArg (fun z => shapeCast _ z _) (congrArg (fun f => Host.dynamicSlice _ _ f _) (funext fun k => ?_))) i
  fin_cases k <;> rfl

/-- The gates, from the row read and the loop's other buffers. -/
def gatesW0 (W : Valuation τ sig (Elt F)) : Arr F S1x4 :=
  gates (share18 (W main_while0b_v44) (W main_v29_1)) (W main_v29_2) (W main_v29_3) (W main_v29_4) (W main_v29_6)

/-- The cell's next content. -/
theorem new_c0 : after bodyOps0_1 V main_while0b_v79 = cellC (gatesW0 V) (V main_v29_7) := by
  chain_rfl
/-- Its output. -/
theorem new_h0 : after bodyOps0_1 V main_while0b_v81 = cellH (gatesW0 V) (cellC (gatesW0 V) (V main_v29_7)) := by
  chain_rfl
/-- The outputs' sequence. -/
theorem new_ys0 : after bodyOps0_2 V main_while0b_v82 = putRow (V main_v29_8) (V main_v29_5) (V main_while0b_v81) := by
  after_reads_simp
  unfold putRow
  refine congrArg (fun f => Host.dynamicUpdateSlice _ _ f _) (funext fun k => ?_)
  fin_cases k <;> rfl

/-- The gates, from what the loop's buffers held at the trip's start. -/
theorem gatesW0_eq : gatesW0 (after bodyOps0_0 (after condOps0 V)) = gates0 V := by
  unfold gatesW0 gates0
  rw [row0_eq]
  rw [show (after bodyOps0_0 (after condOps0 V)) main_v29_1 = V main_v29_1 by chain_rfl, show (after bodyOps0_0 (after condOps0 V)) main_v29_2 = V main_v29_2 by chain_rfl, show (after bodyOps0_0 (after condOps0 V)) main_v29_3 = V main_v29_3 by chain_rfl,
    show (after bodyOps0_0 (after condOps0 V)) main_v29_4 = V main_v29_4 by chain_rfl, show (after bodyOps0_0 (after condOps0 V)) main_v29_6 = V main_v29_6 by chain_rfl]

/-! The whole trip: it keeps its inputs, counts, and updates the cell and the outputs. -/

/-- The counter goes up by one. -/
theorem step0_ctr : step0 V main_v29_5 = addi (V main_v29_5 : Ctr F) (constantI S_ 32 1#32) := by chain_rfl
/-- The cell. -/
theorem step0_c : step0 V main_v29_7 = cellC (gates0 V) (V main_v29_7) := by
  rw [show step0 V main_v29_7 = after bodyOps0_1 (after bodyOps0_0 (after condOps0 V)) main_while0b_v79 by chain_rfl, new_c0, gatesW0_eq,
    show (after bodyOps0_0 (after condOps0 V)) main_v29_7 = V main_v29_7 by chain_rfl]
/-- The output. -/
theorem step0_h : step0 V main_v29_6 = cellH (gates0 V) (cellC (gates0 V) (V main_v29_7)) := by
  rw [show step0 V main_v29_6 = after bodyOps0_1 (after bodyOps0_0 (after condOps0 V)) main_while0b_v81 by chain_rfl, new_h0, gatesW0_eq,
    show (after bodyOps0_0 (after condOps0 V)) main_v29_7 = V main_v29_7 by chain_rfl]
/-- The sequence of outputs. -/
theorem step0_ys : step0 V main_v29_8
    = putRow (V main_v29_8) (V main_v29_5) (cellH (gates0 V) (cellC (gates0 V) (V main_v29_7))) := by
  rw [show step0 V main_v29_8 = after bodyOps0_2 (after bodyOps0_1 (after bodyOps0_0 (after condOps0 V))) main_while0b_v82 by chain_rfl, new_ys0, new_h0, gatesW0_eq,
    show after bodyOps0_1 (after bodyOps0_0 (after condOps0 V)) main_v29_8 = V main_v29_8 by chain_rfl, show after bodyOps0_1 (after bodyOps0_0 (after condOps0 V)) main_v29_5 = V main_v29_5 by chain_rfl,
    show (after bodyOps0_0 (after condOps0 V)) main_v29_7 = V main_v29_7 by chain_rfl]
/-- The input sequence is kept. -/
theorem step0_0 : step0 V main_v29_0 = V main_v29_0 := by chain_rfl
/-- and so are the input weights. -/
theorem step0_1 : step0 V main_v29_1 = V main_v29_1 := by chain_rfl
/-- the first bias. -/
theorem step0_2 : step0 V main_v29_2 = V main_v29_2 := by chain_rfl
/-- the state weights. -/
theorem step0_3 : step0 V main_v29_3 = V main_v29_3 := by chain_rfl
/-- and the second bias. -/
theorem step0_4 : step0 V main_v29_4 = V main_v29_4 := by chain_rfl

/-! ### The second loop's trip, a stretch at a time -/

/-- The row read at the trip's counter. -/
theorem row1_eq : after bodyOps1_0 (after condOps1 V) main_while1b_v44 = row1 (V main_v35_0) (V main_v35_5) := by
  after_reads_simp
  unfold row1
  funext i
  refine congrFun (congrArg (fun z => shapeCast _ z _) (congrArg (fun f => Host.dynamicSlice _ _ f _) (funext fun k => ?_))) i
  fin_cases k <;> rfl

/-- The gates, from the row read and the loop's other buffers. -/
def gatesW1 (W : Valuation τ sig (Elt F)) : Arr F S1x4 :=
  gates (share1 (W main_while1b_v44) (W main_v35_1)) (W main_v35_2) (W main_v35_3) (W main_v35_4) (W main_v35_6)

/-- The cell's next content. -/
theorem new_c1 : after bodyOps1_1 V main_while1b_v79 = cellC (gatesW1 V) (V main_v35_7) := by
  chain_rfl
/-- Its output. -/
theorem new_h1 : after bodyOps1_1 V main_while1b_v81 = cellH (gatesW1 V) (cellC (gatesW1 V) (V main_v35_7)) := by
  chain_rfl
/-- The outputs' sequence. -/
theorem new_ys1 : after bodyOps1_2 V main_while1b_v82 = putRow (V main_v35_8) (V main_v35_5) (V main_while1b_v81) := by
  after_reads_simp
  unfold putRow
  refine congrArg (fun f => Host.dynamicUpdateSlice _ _ f _) (funext fun k => ?_)
  fin_cases k <;> rfl

/-- The gates, from what the loop's buffers held at the trip's start. -/
theorem gatesW1_eq : gatesW1 (after bodyOps1_0 (after condOps1 V)) = gates1 V := by
  unfold gatesW1 gates1
  rw [row1_eq]
  rw [show (after bodyOps1_0 (after condOps1 V)) main_v35_1 = V main_v35_1 by chain_rfl, show (after bodyOps1_0 (after condOps1 V)) main_v35_2 = V main_v35_2 by chain_rfl, show (after bodyOps1_0 (after condOps1 V)) main_v35_3 = V main_v35_3 by chain_rfl,
    show (after bodyOps1_0 (after condOps1 V)) main_v35_4 = V main_v35_4 by chain_rfl, show (after bodyOps1_0 (after condOps1 V)) main_v35_6 = V main_v35_6 by chain_rfl]

/-! The whole trip: it keeps its inputs, counts, and updates the cell and the outputs. -/

/-- The counter goes up by one. -/
theorem step1_ctr : step1 V main_v35_5 = addi (V main_v35_5 : Ctr F) (constantI S_ 32 1#32) := by chain_rfl
/-- The cell. -/
theorem step1_c : step1 V main_v35_7 = cellC (gates1 V) (V main_v35_7) := by
  rw [show step1 V main_v35_7 = after bodyOps1_1 (after bodyOps1_0 (after condOps1 V)) main_while1b_v79 by chain_rfl, new_c1, gatesW1_eq,
    show (after bodyOps1_0 (after condOps1 V)) main_v35_7 = V main_v35_7 by chain_rfl]
/-- The output. -/
theorem step1_h : step1 V main_v35_6 = cellH (gates1 V) (cellC (gates1 V) (V main_v35_7)) := by
  rw [show step1 V main_v35_6 = after bodyOps1_1 (after bodyOps1_0 (after condOps1 V)) main_while1b_v81 by chain_rfl, new_h1, gatesW1_eq,
    show (after bodyOps1_0 (after condOps1 V)) main_v35_7 = V main_v35_7 by chain_rfl]
/-- The sequence of outputs. -/
theorem step1_ys : step1 V main_v35_8
    = putRow (V main_v35_8) (V main_v35_5) (cellH (gates1 V) (cellC (gates1 V) (V main_v35_7))) := by
  rw [show step1 V main_v35_8 = after bodyOps1_2 (after bodyOps1_1 (after bodyOps1_0 (after condOps1 V))) main_while1b_v82 by chain_rfl, new_ys1, new_h1, gatesW1_eq,
    show after bodyOps1_1 (after bodyOps1_0 (after condOps1 V)) main_v35_8 = V main_v35_8 by chain_rfl, show after bodyOps1_1 (after bodyOps1_0 (after condOps1 V)) main_v35_5 = V main_v35_5 by chain_rfl,
    show (after bodyOps1_0 (after condOps1 V)) main_v35_7 = V main_v35_7 by chain_rfl]
/-- The input sequence is kept. -/
theorem step1_0 : step1 V main_v35_0 = V main_v35_0 := by chain_rfl
/-- and so are the input weights. -/
theorem step1_1 : step1 V main_v35_1 = V main_v35_1 := by chain_rfl
/-- the first bias. -/
theorem step1_2 : step1 V main_v35_2 = V main_v35_2 := by chain_rfl
/-- the state weights. -/
theorem step1_3 : step1 V main_v35_3 = V main_v35_3 := by chain_rfl
/-- and the second bias. -/
theorem step1_4 : step1 V main_v35_4 = V main_v35_4 := by chain_rfl

end Cert.Proof.Ref

end
-- ==== Proof.RefRun.lean ====
/-
  The reference's run: its operations, 200 trips of the first loop, the operations between, 200 trips of the second and
  the last operations. Every buffer ends at what these leave in it, and every counter at zero, there being none.
-/
module

public import proofs.«01_k».proof.Proof.RefStep
public import Idealize.ShloMosaic.Lib.Scf.Counter
public import Idealize.ShloMosaic.Lib.Scf.ExitTest
public import Idealize.ShloMosaic.Lib.Tactic

@[expose] public section

set_option maxRecDepth 100000

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)
open StableHlo

variable {F : FTy → Type} [FloatOps F]

local notation "𝕄" => MT nD τ sig Unit (Elt F) ℕ (Option PUnit) ℕ

/-- The stretches before the first loop, -/
abbrev preI : List (List (HloOp τ sig (Elt F))) := [opsA_0, opsA_1, opsA_2]
/-- between the loops, -/
abbrev midI : List (List (HloOp τ sig (Elt F))) := [opsB_0]
/-- and after the second. -/
abbrev endI : List (List (HloOp τ sig (Elt F))) := [opsC_0]

theorem preI_plain : Plain (preI (F := F)) := .cons opsA_0_sub (.cons opsA_1_sub (.cons opsA_2_sub .nil))
theorem midI_plain : Plain (midI (F := F)) := .cons opsB_0_sub .nil
theorem endI_plain : Plain (endI (F := F)) := .cons opsC_0_sub .nil
theorem body0_plain : Plain (body0 (F := F)) := .cons bodyOps0_0_sub (.cons bodyOps0_1_sub (.cons bodyOps0_2_sub (.cons bodyOps0_3_sub .nil)))
theorem body1_plain : Plain (body1 (F := F)) := .cons bodyOps1_0_sub (.cons bodyOps1_1_sub (.cons bodyOps1_2_sub (.cons bodyOps1_3_sub .nil)))

variable (m : (ℓ : Loc nD τ sig) → Buf (Elt F) ℓ) (ρ : Dev nD → PrngReg)

/-- The buffers at the first loop's entry, -/
def W0 (c : Dev nD) : Valuation τ sig (Elt F) := afterL preI (launchContents m c)
/-- before its `k`-th trip, -/
def T0 (k : ℕ) (c : Dev nD) : Valuation τ sig (Elt F) := atTrip condOps0 body0 (W0 m) k c
/-- at the second loop's entry, -/
def W2 (c : Dev nD) : Valuation τ sig (Elt F) := afterL midI (after condOps0 (T0 m 200 c))
/-- before its `k`-th trip, -/
def T1 (k : ℕ) (c : Dev nD) : Valuation τ sig (Elt F) := atTrip condOps1 body1 (W2 m) k c
/-- and at the end. -/
def W4 (c : Dev nD) : Valuation τ sig (Elt F) := afterL endI (after condOps1 (T1 m 200 c))

theorem T0_succ (k : ℕ) (c : Dev nD) : T0 m (k + 1) c = step0 (T0 m k c) := rfl
theorem T1_succ (k : ℕ) (c : Dev nD) : T1 m (k + 1) c = step1 (T1 m k c) := rfl

/-- The first loop's counter before its `k`-th trip. -/
theorem ctr0 (c : Dev nD) : ∀ k, T0 m k c main_v29_5 = fun _ => (Scf.iv 0#32 1#32 k : BitVec 32)
  | 0 => by rw [Scf.iv_zero]; show W0 m c main_v29_5 = _; unfold W0; chain_rfl
  | k + 1 => by
    rw [T0_succ, step0_ctr, ctr0 c k, Scf.iv_succ]
    rfl
/-- The second's. -/
theorem ctr1 (c : Dev nD) : ∀ k, T1 m k c main_v35_5 = fun _ => (Scf.iv 0#32 1#32 k : BitVec 32)
  | 0 => by rw [Scf.iv_zero]; show W2 m c main_v35_5 = _; unfold W2; chain_rfl
  | k + 1 => by
    rw [T1_succ, step1_ctr, ctr1 c k, Scf.iv_succ]
    rfl

/-- What is carried beside the buffers: nothing is owed. -/
abbrev Rw (c : Dev nD) : sProp 𝕄 := iprop(∃ W, owes (c : Thread nD τ) (0 : CellTallies nD τ sig Unit) W)

abbrev adm : (p : Fin 0) → ((pcfgs (F := F)) p).Adm := fun p => p.elim0
abbrev tk : Fin 0 → Ticket (Ix := Unit) (Name := ℕ) (U := Option PUnit) (Lvl := ℕ) (nD := nD) (τ := τ) (pcfgs (F := F)) adm := fun j => j.elim0
abbrev LL : GSem nD τ sig → Finset Unit := fun _ => ∅
abbrev lvl : GSem nD τ sig → Unit → ℕ := fun _ _ => 0

/-- The first loop's condition: it asks for a trip exactly 200 times. -/
theorem cond0 (Rc : Dev nD → sProp 𝕄) : LoopCond (pcfgs (F := F)) defs₀ Variants.none loops Rc main_while0_cond condOps0 body0 (W0 m) 200 := fun k hk c bd => by
  have hctr := ctr0 m c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    show Iff (IntOp.cmpi .slt (HloOp.result _ (T0 m k c) main_v29_5 HostLoop.idx0)
        (HloOp.result _ (T0 m k c) main_while0c_c_19 HostLoop.idx0) = 1#1) (k < 200)
    rw [StableHlo.nullary_result_ne _ _ _ _ (by decide), StableHlo.nullary_result, hctr]
    exact Scf.cmpi_slt_iv_ub_iff main_while0_ok hk
  isplitl [Hb]; · iexact Hb
  isplitl [Hh]; · iexact Hh
  iexact HR

/-- The second's. -/
theorem cond1 (Rc : Dev nD → sProp 𝕄) : LoopCond (pcfgs (F := F)) defs₀ Variants.none loops Rc main_while1_cond condOps1 body1 (W2 m) 200 := fun k hk c bd => by
  have hctr := ctr1 m c k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    show Iff (IntOp.cmpi .slt (HloOp.result _ (T1 m k c) main_v35_5 HostLoop.idx0)
        (HloOp.result _ (T1 m k c) main_while1c_c_19 HostLoop.idx0) = 1#1) (k < 200)
    rw [StableHlo.nullary_result_ne _ _ _ _ (by decide), StableHlo.nullary_result, hctr]
    exact Scf.cmpi_slt_iv_ub_iff main_while1_ok hk
  isplitl [Hb]; · iexact Hb
  isplitl [Hh]; · iexact Hh
  iexact HR

/-- The main function's pieces: stretches, a loop, a stretch, a loop, a stretch. -/
def segs : List (CSeg (pcfgs (F := F)) adm defs₀ Variants.none LL lvl loops (tk (F := F))) :=
  segsOf _ _ _ _ _ _ _ _ Rw preI preI_plain (launchContents m)
    ++ loopSeg _ _ _ _ _ _ _ _ 0 main_while0_cond main_while0_body rfl condOps0 body0 body0_plain body0_chain 200 (W0 m) Rw (cond0 m Rw)
      :: (segsOf _ _ _ _ _ _ _ _ Rw midI midI_plain (fun c => after condOps0 (T0 m 200 c))
        ++ loopSeg _ _ _ _ _ _ _ _ 1 main_while1_cond main_while1_body rfl condOps1 body1 body1_plain body1_chain 200 (W2 m) Rw (cond1 m Rw)
          :: segsOf _ _ _ _ _ _ _ _ Rw endI endI_plain (fun c => after condOps1 (T1 m 200 c)))

/-- Their programs are the main function's items. -/
theorem segs_prog : (segs m).map CSeg.prog
    = [ StableHlo.seq opsA_0, StableHlo.seq opsA_1, StableHlo.seq opsA_2, HostLoop.enter 0, StableHlo.seq opsB_0, HostLoop.enter 1, StableHlo.seq opsC_0 ] := by
  unfold segs
  rw [List.map_append, List.map_cons, List.map_append, List.map_cons, segsOf_prog, segsOf_prog, segsOf_prog]
  rfl

/-- They chain from the launch contents to the end's. -/
theorem segs_chains : CSeg.Chains (fun c => iprop(held (c : Thread nD τ) (ucRefs τ sig) (launchContents m c) ∗ Rw c)) (segs m)
    (fun c => iprop(iprop(held (c : Thread nD τ) (ucRefs τ sig) (W4 m c)) ∗ ∃ W, owes (c : Thread nD τ) (0 : CellTallies nD τ sig Unit) W)) := by
  unfold segs
  refine CSeg.Chains.append (segsOf_chains _ _ _ _ _ _ _ _ Rw preI preI_plain _) ⟨fun _ => .rfl, ?_⟩
  refine CSeg.Chains.append (segsOf_chains _ _ _ _ _ _ _ _ Rw midI midI_plain _) ⟨fun _ => .rfl, ?_⟩
  exact segsOf_chains _ _ _ _ _ _ _ _ Rw endI endI_plain _

/-- The run: every buffer that is no scratch ends at what the operations and the loops leave in it. -/
theorem run_main : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = W4 m c (Proc.devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none LL lvl loops (tk (F := F)) m ρ main (segs m)
    (fun c Q => by
      rw [main_chain c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (W4 m c)))
    (hch := segs_chains m)
    (hinit := by
      refine Pipeline.initEach LL lvl fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W4 m c b)
    (hfin := fun c s' => by
      unfold held
      iintro ⟨Hh, HSI⟩
      ihave Hr := (pointsTo_read_all (ucRefs τ sig) (fun b => ((c : Dev nD), b)) (fun b => W4 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- The program names no counter. -/
theorem sem_zero (s : MemSt nD τ sig (Elt F)) : s.sem = fun _ => 0 := by
  funext g
  obtain ⟨t, s | s⟩ := g
  · exact s.elim0
  · exact s.elim0

/-- The run, with the counters. -/
theorem run_all : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = W4 m c (Proc.devRef .tc b)) ∧ r.2.sem = fun _ => 0) :=
  (θ_run defs _ _).mono (fun r h => ⟨h, sem_zero _⟩) (run_main m ρ)

end Cert.Proof.Ref

end
-- ==== Proof.RefArgs.lean ====
/-
  The reference leaves its argument arrays alone: none of its operations writes one.
-/
module

public import proofs.«01_k».proof.Proof.RefRun

@[expose] public section

set_option maxRecDepth 100000

noncomputable section

namespace Cert.Proof.Ref

open Cert.ReferenceIdeal Cert.ReferenceIdeal.Gen
open Idealize.ShloMosaic Idealize.ShloMosaic.TcCoe Idealize.ShloMosaic.Tactic
open Idealize.SL Idealize.SL.Sem
open StableHlo

variable {F : FTy → Type} [FloatOps F]

/-- A buffer that neither a stretch of operations nor a trip of a loop changes. -/
structure Kept (F : FTy → Type) [FloatOps F] (b : Ref sig .tc) : Prop where
  pre : ∀ V : Valuation τ sig (Elt F), afterL preI V b = V b
  trip0 : ∀ V : Valuation τ sig (Elt F), step0 V b = V b
  exit0 : ∀ V : Valuation τ sig (Elt F), after condOps0 V b = V b
  mid : ∀ V : Valuation τ sig (Elt F), afterL midI V b = V b
  trip1 : ∀ V : Valuation τ sig (Elt F), step1 V b = V b
  exit1 : ∀ V : Valuation τ sig (Elt F), after condOps1 V b = V b
  post : ∀ V : Valuation τ sig (Elt F), afterL endI V b = V b

variable (m : (ℓ : Loc nD τ sig) → Buf (Elt F) ℓ)

/-- What the first loop's trips keep, -/
theorem T0_kept {b : Ref sig .tc} (h : ∀ V : Valuation τ sig (Elt F), step0 V b = V b) (c : Dev nD) : ∀ k, T0 m k c b = W0 m c b
  | 0 => rfl
  | k + 1 => by rw [T0_succ, h, T0_kept h c k]
/-- and the second's. -/
theorem T1_kept {b : Ref sig .tc} (h : ∀ V : Valuation τ sig (Elt F), step1 V b = V b) (c : Dev nD) : ∀ k, T1 m k c b = W2 m c b
  | 0 => rfl
  | k + 1 => by rw [T1_succ, h, T1_kept h c k]

/-- A kept buffer ends at what it held at the start. -/
theorem Kept.end {b : Ref sig .tc} (h : Kept F b) (c : Dev nD) : W4 m c b = m ((c.tc : Thread nD τ).loc b) := by
  unfold W4
  rw [h.post, h.exit1, T1_kept m h.trip1]
  unfold W2
  rw [h.mid, h.exit0, T0_kept m h.trip0]
  unfold W0
  rw [h.pre]

/-- The argument arrays. -/
abbrev argRefs : List (Ref sig .tc) :=
  [main_arg0, main_arg1, main_arg2, main_arg3, main_arg4, main_arg5, main_arg6, main_arg7, main_arg8, main_arg9, main_arg10, main_arg11, main_arg12, main_arg13, main_arg14]

/-- Each is kept. -/
theorem args_kept : ∀ b ∈ argRefs, Kept F b := by
  intro b hb
  simp only [argRefs, List.mem_cons, List.not_mem_nil, or_false] at hb
  rcases hb with h | h | h | h | h | h | h | h | h | h | h | h | h | h | h <;> subst h <;>
    exact ⟨fun V => by chain_rfl, fun V => by chain_rfl, fun V => by chain_rfl, fun V => by chain_rfl, fun V => by chain_rfl, fun V => by chain_rfl, fun V => by chain_rfl⟩

/-- The run: the argument arrays end as they were, and the counters at zero. -/
theorem run_args (ρ : Dev nD → PrngReg) : θ_run (defs (F := F)) (onTc (τ := τ) (main (F := F))) ⟨m, fun _ => 0, ρ⟩
    (fun r => (∀ (c : Dev nD), ∀ b ∈ argRefs, (r.2.mem ((c.tc : Thread nD τ).loc b) : Buf (Elt F) ((c.tc : Thread nD τ).loc b)) = m ((c.tc : Thread nD τ).loc b)) ∧ r.2.sem = fun _ => 0) := by
  refine (θ_run defs _ _).mono (fun r h => ⟨fun c b hb => ?_, h.2⟩) (run_all m ρ)
  rw [h.1 c b ?_]
  · exact (args_kept b hb).end m c
  · simp only [argRefs, List.mem_cons, List.not_mem_nil, or_false] at hb
    rcases hb with h | h | h | h | h | h | h | h | h | h | h | h | h | h | h <;> subst h <;> rfl

end Cert.Proof.Ref

end
-- ==== Proof.Frames.lean ====
/-
  The claims that say no value: each program runs and leaves its arguments alone, and the idealized kernel differs from
  the printed one by the value of one named constant.
-/
module

public import proofs.«01_k».proof.Defs
public import proofs.«01_k».proof.Proof.AsPrinted
public import proofs.«01_k».proof.Proof.Args
public import proofs.«01_k».proof.Proof.RefArgs

@[expose] public section

set_option maxRecDepth 100000

noncomputable section

namespace Cert.Proof

open Idealize.ShloMosaic Idealize.ShloMosaic.TcCoe Idealize.SL.Sem

/-- The side conditions of the precondition's operations. -/
theorem preFacts : Cert.Pre_edges_in_range.Facts where
  slices_S2x100000_S1x100000_1_0 := Cert.ReferenceIdeal.Gen.slices_S2x100000_S1x100000_1_0
  shapeCasts_S1x100000_S100000 := Cert.ReferenceIdeal.Gen.shapeCasts_S1x100000_S100000
  bcast_S_S100000 := Cert.ReferenceIdeal.Gen.bcast_S_S100000
  reducesTo_S100000_S_d0 := by decide
  h_S_ := Cert.ReferenceIdeal.Gen.h_S_

/-- The idealized kernel's frame, whatever its arguments hold. -/
theorem frame_kernel : Cert.quiescent_KernelIdeal (hKernelIdeal := Cert.KernelIdeal.Gen.facts) :=
  fun m g _ => Ker.run_args m g

/-- The reference's frame, whatever its arguments hold. -/
theorem frame_reference : Cert.quiescent_ReferenceIdeal (hReferenceIdeal := Cert.ReferenceIdeal.Gen.facts) := by
  intro m g _
  refine (θ_run _ _ _).mono (fun r h => ⟨fun c => ?_, h.2⟩) (Ref.run_args m g)
  have h' := List.forall_iff_forall_mem.mpr (h.1 c)
  simpa only [List.Forall] using h'

/-- The named constant: one over the number of nodes, where the printed kernel has its nearest f32. -/
theorem preserves : Cert.preserves_Kernel_KernelIdeal :=
  IdealRules.named_const.statement Cert.KernelIdeal.κ "inv_n" .f32 0x3727C5AC#32 ((1 / 100000 : ℝ) : EReal) rfl

end Cert.Proof

end
-- ==== Proof.Steps.lean ====
/-
  The recurrent part of a trip: what its twenty steps make of the two cells carried. A step advances the first layer by
  one row of its gate inputs and the second layer by the first's output before the step; the second's result is kept by
  the weight `keep` (zero at the very first step, where there is no such output yet).
-/
module

public import proofs.«01_k».proof.Proof.Trip

@[expose] public section

set_option maxRecDepth 100000

noncomputable section

namespace Cert.Proof.Ker

open Cert.KernelIdeal Cert.KernelIdeal.Gen
open Idealize.ShloMosaic
open Idealize.ShloMosaic.TcCoe Idealize.ShloMosaic.Tactic

variable {F : FTy → Type} [FloatOps F] [Named F]

/-- The two cells: outputs and contents of the first layer, then of the second. -/
abbrev Cells (F : FTy → Type) : Type := F .f32 × F .f32 × F .f32 × F .f32

/-- A gate's value: the `j`-th of the four. -/
def gateAt (g : FVec F S1x4 .f32) (j : ℕ) (h : S1x4.Slices ![0, j] S1x1) : F .f32 :=
  extractAt ![0, 0] (extractStridedSlice S1x1 ![0, j] g h) inpos_S1x1_p0_0

/-- The logistic function from the hyperbolic tangent of half its argument. -/
def half (r z : F .f32) : F .f32 := Scalar.addf r (Scalar.mulf r z)

/-- A cell's next content, from the tangents of its scaled gates, -/
def nextC (r : F .f32) (g : FVec F S1x4 .f32) (c : F .f32) : F .f32 :=
  Scalar.addf (Scalar.mulf (half r (gateAt g 1 slices_S1x4_o0_1_S1x1)) c)
    (Scalar.mulf (half r (gateAt g 0 slices_S1x4_o0_0_S1x1)) (gateAt g 2 slices_S1x4_o0_2_S1x1))
/-- and its output. -/
def nextH (r : F .f32) (g : FVec F S1x4 .f32) (c' : F .f32) : F .f32 :=
  Scalar.mulf (half r (gateAt g 3 slices_S1x4_o0_3_S1x1)) (Scalar.tanh c')

/-- The first layer's gates under the tangent, from a row of gate inputs, -/
def tan0 (R u : FVec F S1x4 .f32) (h0 : F .f32) : FVec F S1x4 .f32 := tanh (addf R (mulf (broadcast S1x4 h0) u))
/-- and the second's, from the first's output. -/
def tan1 (w u b : FVec F S1x4 .f32) (h0 h1 : F .f32) : FVec F S1x4 .f32 :=
  tanh (addf (addf (mulf (broadcast S1x4 h0) w) (mulf (broadcast S1x4 h1) u)) b)

/-- A value kept with the weight `q`, the old one with the rest. -/
def mixed (one q new old : F .f32) : F .f32 := Scalar.addf (Scalar.mulf q new) (Scalar.mulf (Scalar.subf one q) old)

/-- The constant one. -/
def oneF : F .f32 := Scalar.ofBits .f32 0x3F800000#32

variable (v22 v24 v26 v28 : FVec F S1x4 .f32) (r : F .f32)

/-- One step. -/
def stepK (R : FVec F S1x4 .f32) (q : F .f32) (s : Cells F) : Cells F :=
  (nextH r (tan0 R v22 s.1) (nextC r (tan0 R v22 s.1) s.2.1), nextC r (tan0 R v22 s.1) s.2.1,
    mixed oneF q (nextH r (tan1 v24 v26 v28 s.1 s.2.2.1) (nextC r (tan1 v24 v26 v28 s.1 s.2.2.1) s.2.2.2)) s.2.2.1,
    mixed oneF q (nextC r (tan1 v24 v26 v28 s.1 s.2.2.1) s.2.2.2) s.2.2.2)

/-- Row `n` of a slab is inside it. -/
theorem row_slices (n : ℕ) (h : n < 20) : S20x4.Slices ![n, 0] S1x4 := ⟨rfl, fun a => by
  fin_cases a
  · show n + 1 ≤ 20; omega
  · show 0 + 4 ≤ 4; omega⟩

/-- Row `n` of a slab of twenty. -/
def rowAt (x : FVec F S20x4 .f32) (n : ℕ) : FVec F S1x4 .f32 :=
  if h : n < 20 then extractStridedSlice S1x4 ![n, 0] x (row_slices n h) else broadcast S1x4 oneF

/-- The steps of a trip, at the weights `q`. -/
def stepsK (x : FVec F S20x4 .f32) (q : ℕ → F .f32) (s : Cells F) (n : ℕ) : Cells F :=
  Nat.rec s (fun n s => stepK v22 v24 v26 v28 r (rowAt x n) (q n) s) n

/-- The weight of a step's second layer: at a trip's first step it asks for the trip's number. -/
def keepAt (k : Fin k0_t1_loop.trips) (n : ℕ) : F .f32 :=
  Nat.rec (Scalar.sitofp .f32 (Scalar.extui (Scalar.cmpi CmpIPredicate.sge
    (Scalar.addi (Scalar.muli (Scf.iv 0#32 1#32 k) 20#32) 0#32) 1#32))) (fun _ _ => Scalar.sitofp .f32 1#32) n

section
open Idealize.SL Idealize.SL.Sem
variable (c : Dev nD) (X : Buf (Elt F) (xM.view.loc (c : Thread nD τ))) (arg14 : Memref sig .tc .vmem S200x4 .f32) (harg14 : arg14.IsWhole) (G : Buf (Elt F) (arg14.view.loc (c : Thread nD τ)))
  (arg1 : Memref sig .tc .vmem S140x2 .f32) (harg1 : arg1.IsWhole) (arg2 : Memref sig .tc .vmem S1x1 .f32) (harg2 : arg2.IsWhole)
  (arg3 : Memref sig .tc .vmem S200x18 .f32) (harg3 : arg3.IsWhole) (arg4 : Memref sig .tc .vmem S18x4 .f32) (harg4 : arg4.IsWhole)
  (arg5 : Memref sig .tc .vmem S1x4 .f32) (harg5 : arg5.IsWhole) (arg6 : Memref sig .tc .vmem S1x4 .f32) (harg6 : arg6.IsWhole)
  (arg7 : Memref sig .tc .vmem S1x4 .f32) (harg7 : arg7.IsWhole) (arg8 : Memref sig .tc .vmem S1x4 .f32) (harg8 : arg8.IsWhole)
  (arg9 : Memref sig .tc .vmem S1x4 .f32) (harg9 : arg9.IsWhole) (arg10 : Memref sig .tc .vmem S1x2 .f32) (harg10 : arg10.IsWhole)
  (arg11 : Memref sig .tc .vmem S1x1 .f32) (harg11 : arg11.IsWhole) (arg12 : Memref sig .tc .vmem S1x1 .f32) (harg12 : arg12.IsWhole)
  (v18 : FVec F S140x2 .f32) (v20 : F .f32) (cst_25 : F .f32)

/-- The trip's slab of gate inputs. -/
def slabAt (k : Fin k0_t1_loop.trips) : FVec F S20x4 .f32 :=
  View.readAt (Elt F) arg14.view (Rect.unit (s := S200x4) (k0_off4 k) S20x4.size (k0_off4_inb k)).toLoadRect G

/-- The block of rows the trip waited for. -/
def blockAt (k : Fin k0_t1_loop.trips) : Vec F S1x10000x140 .f32 :=
  View.readAt (Elt F) bufM.view (Rect.unit (s := S2x10000x140) (k0_off8 k) S1x10000x140.size (k0_off8_inb k)).toLoadRect
    ((rslot (Ring.sl 2 k.val)).view.writes (Elt F) (rslot (Ring.sl 2 k.val)).view.junk
      [⟨Rect.whole S10000x140, ReadAs.same.apply (View.read (Elt F) (blk (Ring.bk 10 k.val)).view X)⟩])

/-- A trip's values: the running sum with the block's, and the cells after twenty steps. -/
def tripVal (k : Fin k0_t1_loop.trips) (a : Acc F) : Acc F :=
  (k0_pay225 v18 v20 a.1 (blockAt c X k), stepsK v22 v24 v26 v28 r (slabAt c arg14 G k) (keepAt k) a.2 20)

theorem tripRun_val (k : Fin k0_t1_loop.trips) (hk : k.val + 1 < 10) (a : Acc F) :
    (tripRun c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 r cst_25 k hk a).1
      = tripVal v22 v24 v26 v28 r c X arg14 G v18 v20 k a := by
  obtain ⟨a1, a2, a3, a4, a5⟩ := a
  sl_kernel_rfl

theorem tripRunLast_val (k : Fin k0_t1_loop.trips) (hk : ¬k.val + 1 < 10) (a : Acc F) :
    (tripRunLast c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 r cst_25 k hk a).1
      = tripVal v22 v24 v26 v28 r c X arg14 G v18 v20 k a := by
  obtain ⟨a1, a2, a3, a4, a5⟩ := a
  sl_kernel_rfl

/-- Whichever trip it is. -/
theorem tripAcc_eq (k : Fin k0_t1_loop.trips) (a : Acc F) :
    tripAcc c X arg14 harg14 G arg1 harg1 arg2 harg2 arg3 harg3 arg4 harg4 arg5 harg5 arg6 harg6 arg7 harg7 arg8 harg8 arg9 harg9 arg10 harg10 arg11 harg11 arg12 harg12 v18 v20 v22 v24 v26 v28 r cst_25 k a
      = tripVal v22 v24 v26 v28 r c X arg14 G v18 v20 k a := by
  unfold tripAcc
  split
  · exact tripRun_val ..
  · exact tripRunLast_val ..
end

end Cert.Proof.Ker

end
-- ==== Proof.BodyVal.lean ====
/-
  What one run of the body stores, in the values staged: the last step of the second layer's cell after ten trips, and
  the running sum of the node part, put together by the final weights.
-/
module

public import proofs.«01_k».proof.Proof.Body
public import proofs.«01_k».proof.Proof.Steps
public import Idealize.ShloMosaic.Lib.VecWindow

@[expose] public section

set_option maxRecDepth 100000

noncomputable section

namespace Cert.Proof.Ker

open Cert.KernelIdeal Cert.KernelIdeal.Gen
open Idealize.ShloMosaic
open Idealize.ShloMosaic.TcCoe Idealize.ShloMosaic.Tactic
open Idealize.SL Idealize.SL.Sem

variable {F : FTy → Type} [FloatOps F] [Named F]

/-- One half and zero. -/
def halfF : F .f32 := FloatOps.ofBits .f32 0x3F000000#32
def zeroF : F .f32 := FloatOps.ofBits .f32 0x00000000#32

variable (c : Dev nD) (X : Buf (Elt F) (xM.view.loc (c : Thread nD τ)))
  (arg14 : Memref sig .tc .vmem S200x4 .f32) (harg14 : arg14.IsWhole)
  (arg1 : Memref sig .tc .vmem S140x2 .f32) (harg1 : arg1.IsWhole)
  (arg2 : Memref sig .tc .vmem S1x1 .f32) (harg2 : arg2.IsWhole)
  (arg3 : Memref sig .tc .vmem S200x18 .f32) (harg3 : arg3.IsWhole)
  (arg4 : Memref sig .tc .vmem S18x4 .f32) (harg4 : arg4.IsWhole)
  (arg5 : Memref sig .tc .vmem S1x4 .f32) (harg5 : arg5.IsWhole)
  (arg6 : Memref sig .tc .vmem S1x4 .f32) (harg6 : arg6.IsWhole)
  (arg7 : Memref sig .tc .vmem S1x4 .f32) (harg7 : arg7.IsWhole)
  (arg8 : Memref sig .tc .vmem S1x4 .f32) (harg8 : arg8.IsWhole)
  (arg9 : Memref sig .tc .vmem S1x4 .f32) (harg9 : arg9.IsWhole)
  (arg10 : Memref sig .tc .vmem S1x2 .f32) (harg10 : arg10.IsWhole)
  (arg11 : Memref sig .tc .vmem S1x1 .f32) (harg11 : arg11.IsWhole)
  (arg12 : Memref sig .tc .vmem S1x1 .f32) (harg12 : arg12.IsWhole)

section Carried
variable (x1 : Vec F S140x2 .f32) (x2 : Vec F S1x1 .f32) (x3 : Vec F S200x18 .f32) (x4 : Vec F S18x4 .f32) (x5 x6 x7 x8 x9 : Vec F S1x4 .f32)

/-- The gate inputs of all steps, as the body leaves them in its scratch. -/
def scratchAt : Buf (Elt F) (arg14.view.loc (c : Thread nD τ)) :=
  arg14.view.writes (Elt F) arg14.view.junk [⟨Rect.unit (s := S200x4) ![0, 0] S200x4.size inb_S200x4_S200x4_0_0, k0_pay218 x3 x4 x6⟩]

/-- The values carried before trip `n`, in the values staged. -/
def carried (n : ℕ) : Acc F :=
  accAt c X arg14 harg14 (scratchAt c arg14 x3 x4 x6) arg1 harg1 arg2 harg2 arg3 harg3 arg4 harg4 arg5 harg5 arg6 harg6 arg7 harg7 arg8 harg8 arg9 harg9 arg10 harg10 arg11 harg11 arg12 harg12 (k0_pay219 x1) (k0_pay220 x2) (k0_pay221 x5) (k0_pay222 x7) (k0_pay223 x8) (k0_pay224 x9)
    halfF zeroF (zeroF, zeroF, zeroF, zeroF, zeroF) n

theorem carried_zero : carried c X arg14 harg14 arg1 harg1 arg2 harg2 arg3 harg3 arg4 harg4 arg5 harg5 arg6 harg6 arg7 harg7 arg8 harg8 arg9 harg9 arg10 harg10 arg11 harg11 arg12 harg12 x1 x2 x3 x4 x5 x6 x7 x8 x9 0 = (zeroF, zeroF, zeroF, zeroF, zeroF) := rfl

/-- A trip takes the values carried before it to those before the next. -/
theorem carried_succ (k : Fin k0_t1_loop.trips) :
    carried c X arg14 harg14 arg1 harg1 arg2 harg2 arg3 harg3 arg4 harg4 arg5 harg5 arg6 harg6 arg7 harg7 arg8 harg8 arg9 harg9 arg10 harg10 arg11 harg11 arg12 harg12 x1 x2 x3 x4 x5 x6 x7 x8 x9 (k.val + 1)
      = tripVal (k0_pay221 x5) (k0_pay222 x7) (k0_pay223 x8) (k0_pay224 x9) halfF c X arg14 (scratchAt c arg14 x3 x4 x6) (k0_pay219 x1) (k0_pay220 x2) k
          (carried c X arg14 harg14 arg1 harg1 arg2 harg2 arg3 harg3 arg4 harg4 arg5 harg5 arg6 harg6 arg7 harg7 arg8 harg8 arg9 harg9 arg10 harg10 arg11 harg11 arg12 harg12 x1 x2 x3 x4 x5 x6 x7 x8 x9 k.val) := by
  unfold carried
  rw [accAt, dif_pos k.isLt]
  exact tripAcc_eq ..
end Carried

/-- What is stored, from the values carried out of the loop. -/
def finish (x7 x8 x9 : Vec F S1x4 .f32) (x10 : Vec F S1x2 .f32) (x11 : Vec F S1x1 .f32) (A : Acc F) : Vec F S1x1 .f32 :=
  k0_pay226 (k0_pay222 x7) (k0_pay223 x8) (k0_pay224 x9) A.1 A.2.1 A.2.2.2.1 A.2.2.2.2 x10 x11

/-- The body's result in what its loads read. -/
theorem bodyRun_loads
  (g1 : Buf (Elt F) (arg1.view.loc (c : Thread nD τ)))
  (g2 : Buf (Elt F) (arg2.view.loc (c : Thread nD τ)))
  (g3 : Buf (Elt F) (arg3.view.loc (c : Thread nD τ)))
  (g4 : Buf (Elt F) (arg4.view.loc (c : Thread nD τ)))
  (g5 : Buf (Elt F) (arg5.view.loc (c : Thread nD τ)))
  (g6 : Buf (Elt F) (arg6.view.loc (c : Thread nD τ)))
  (g7 : Buf (Elt F) (arg7.view.loc (c : Thread nD τ)))
  (g8 : Buf (Elt F) (arg8.view.loc (c : Thread nD τ)))
  (g9 : Buf (Elt F) (arg9.view.loc (c : Thread nD τ)))
  (g10 : Buf (Elt F) (arg10.view.loc (c : Thread nD τ)))
  (g11 : Buf (Elt F) (arg11.view.loc (c : Thread nD τ))) :
    (bodyRun c X arg14 harg14 arg1 harg1 arg2 harg2 arg3 harg3 arg4 harg4 arg5 harg5 arg6 harg6 arg7 harg7 arg8 harg8 arg9 harg9 arg10 harg10 arg11 harg11 arg12 harg12 g1 g2 g3 g4 g5 g6 g7 g8 g9 g10 g11).1
      = finish (View.readAt (Elt F) arg7.view (Rect.unit (s := S1x4) ![0, 0] S1x4.size inb_S1x4_S1x4_0_0).toLoadRect g7) (View.readAt (Elt F) arg8.view (Rect.unit (s := S1x4) ![0, 0] S1x4.size inb_S1x4_S1x4_0_0).toLoadRect g8) (View.readAt (Elt F) arg9.view (Rect.unit (s := S1x4) ![0, 0] S1x4.size inb_S1x4_S1x4_0_0).toLoadRect g9) (View.readAt (Elt F) arg10.view (Rect.unit (s := S1x2) ![0, 0] S1x2.size inb_S1x2_S1x2_0_0).toLoadRect g10) (View.readAt (Elt F) arg11.view (Rect.unit (s := S1x1) ![0, 0] S1x1.size inb_S1x1_S1x1_0_0).toLoadRect g11)
          (carried c X arg14 harg14 arg1 harg1 arg2 harg2 arg3 harg3 arg4 harg4 arg5 harg5 arg6 harg6 arg7 harg7 arg8 harg8 arg9 harg9 arg10 harg10 arg11 harg11 arg12 harg12
            (View.readAt (Elt F) arg1.view (Rect.unit (s := S140x2) ![0, 0] S140x2.size inb_S140x2_S140x2_0_0).toLoadRect g1) (View.readAt (Elt F) arg2.view (Rect.unit (s := S1x1) ![0, 0] S1x1.size inb_S1x1_S1x1_0_0).toLoadRect g2) (View.readAt (Elt F) arg3.view (Rect.unit (s := S200x18) ![0, 0] S200x18.size inb_S200x18_S200x18_0_0).toLoadRect g3) (View.readAt (Elt F) arg4.view (Rect.unit (s := S18x4) ![0, 0] S18x4.size inb_S18x4_S18x4_0_0).toLoadRect g4) (View.readAt (Elt F) arg5.view (Rect.unit (s := S1x4) ![0, 0] S1x4.size inb_S1x4_S1x4_0_0).toLoadRect g5) (View.readAt (Elt F) arg6.view (Rect.unit (s := S1x4) ![0, 0] S1x4.size inb_S1x4_S1x4_0_0).toLoadRect g6) (View.readAt (Elt F) arg7.view (Rect.unit (s := S1x4) ![0, 0] S1x4.size inb_S1x4_S1x4_0_0).toLoadRect g7) (View.readAt (Elt F) arg8.view (Rect.unit (s := S1x4) ![0, 0] S1x4.size inb_S1x4_S1x4_0_0).toLoadRect g8) (View.readAt (Elt F) arg9.view (Rect.unit (s := S1x4) ![0, 0] S1x4.size inb_S1x4_S1x4_0_0).toLoadRect g9) 10) := by
  sl_kernel_rfl

/-- The body's result at the values staged. -/
theorem bodyRun_val
  (x1 : Vec F S140x2 .f32)
  (x2 : Vec F S1x1 .f32)
  (x3 : Vec F S200x18 .f32)
  (x4 : Vec F S18x4 .f32)
  (x5 : Vec F S1x4 .f32)
  (x6 : Vec F S1x4 .f32)
  (x7 : Vec F S1x4 .f32)
  (x8 : Vec F S1x4 .f32)
  (x9 : Vec F S1x4 .f32)
  (x10 : Vec F S1x2 .f32)
  (x11 : Vec F S1x1 .f32) :
    (bodyRun c X arg14 harg14 arg1 harg1 arg2 harg2 arg3 harg3 arg4 harg4 arg5 harg5 arg6 harg6 arg7 harg7 arg8 harg8 arg9 harg9 arg10 harg10 arg11 harg11 arg12 harg12 (arg1.view.rep x1) (arg2.view.rep x2) (arg3.view.rep x3) (arg4.view.rep x4) (arg5.view.rep x5) (arg6.view.rep x6) (arg7.view.rep x7) (arg8.view.rep x8) (arg9.view.rep x9) (arg10.view.rep x10) (arg11.view.rep x11)).1
      = finish x7 x8 x9 x10 x11 (carried c X arg14 harg14 arg1 harg1 arg2 harg2 arg3 harg3 arg4 harg4 arg5 harg5 arg6 harg6 arg7 harg7 arg8 harg8 arg9 harg9 arg10 harg10 arg11 harg11 arg12 harg12 x1 x2 x3 x4 x5 x6 x7 x8 x9 10) := by
  rw [bodyRun_loads, View.readAt_rep_full arg1.view x1, View.readAt_rep_full arg2.view x2, View.readAt_rep_full arg3.view x3, View.readAt_rep_full arg4.view x4, View.readAt_rep_full arg5.view x5, View.readAt_rep_full arg6.view x6, View.readAt_rep_full arg7.view x7, View.readAt_rep_full arg8.view x8, View.readAt_rep_full arg9.view x9, View.readAt_rep_full arg10.view x10, View.readAt_rep_full arg11.view x11]

end Cert.Proof.Ker

end
-- ==== Proof.Cell.lean ====
/-
  The recurrent cell over the extended reals: its next content and its output from the four gates, and the logistic
  function as half of one plus the tangent of half the argument.
-/
module

public import Idealize.ShloMosaic.Lib.Pointwise

@[expose] public section

noncomputable section

namespace Cert.Proof

open Idealize.ShloMosaic

/-- The constant one half. -/
theorem bits_half : Ideal.ofBits .f32 0x3F000000#32 = ((1 / 2 : ℝ) : EReal) := by
  simp [Ideal.ofBits, Ideal.ieee, -EReal.coe_mul]; norm_num

/-- The constant of the number of nodes. -/
theorem bits_nodes : Ideal.ofBits .f32 0x47C35000#32 = ((100000 : ℝ) : EReal) := by
  simp [Ideal.ofBits, Ideal.ieee, -EReal.coe_mul]; norm_num

/-- The logistic function, from the tangent of half the argument. -/
theorem logistic_half (x : EReal) :
    ((1 / 2 : ℝ) : EReal) + ((1 / 2 : ℝ) : EReal) * Ideal.tanh (((1 / 2 : ℝ) : EReal) * x) = Ideal.logistic x := by
  induction x using EReal.rec with
  | bot =>
    rw [EReal.coe_mul_bot_of_pos (by norm_num), Ideal.tanh_bot, Ideal.logistic_bot, mul_neg, mul_one]
    rw [← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have p1 := Real.exp_pos (1 / 2 * r)
    have p2 := Real.exp_pos (-(1 / 2 * r))
    rw [h1]
    generalize Real.exp (1 / 2 * r) = a at *
    generalize Real.exp (-(1 / 2 * r)) = b at *
    have : a = b⁻¹ := by field_simp; linarith
    subst this
    field_simp
    ring

/-- The cell's next content, from its four gates before their nonlinearities (input, forget, candidate, output), -/
def contentOf (p : Fin 4 → EReal) (c : EReal) : EReal :=
  Ideal.logistic (p 1) * c + Ideal.logistic (p 0) * Ideal.tanh (p 2)
/-- and its output. -/
def outputOf (p : Fin 4 → EReal) (c' : EReal) : EReal := Ideal.logistic (p 3) * Ideal.tanh c'

/-- One step of a cell: its output and content from the gates. -/
def cellStep (p : Fin 4 → EReal) (c : EReal) : EReal × EReal := (outputOf p (contentOf p c), contentOf p c)

/-- The factor the gates are scaled by beforehand: a half where the logistic function is applied, one for the tangent. -/
def scaleOf (j : Fin 4) : ℝ := if j = 2 then 1 else 1 / 2

theorem scaleOf_nonneg (j : Fin 4) : (0 : EReal) ≤ (scaleOf j : EReal) := by
  unfold scaleOf; split <;> simp

/-- Scaling distributes over a sum, infinite values included. -/
theorem scale_add (j : Fin 4) (x y : EReal) : (x + y) * (scaleOf j : EReal) = x * (scaleOf j : EReal) + y * (scaleOf j : EReal) := by
  exact EReal.right_distrib_of_nonneg_of_ne_top (scaleOf_nonneg j) (EReal.coe_ne_top _) x y

/-- Scaling distributes over a finite sum. -/
theorem scale_sum {n : ℕ} (j : Fin 4) (f : Fin n → EReal) :
    (∑ k, f k) * (scaleOf j : EReal) = ∑ k, f k * (scaleOf j : EReal) := by
  have h : ∀ s : Finset (Fin n), (∑ k ∈ s, f k) * (scaleOf j : EReal) = ∑ k ∈ s, f k * (scaleOf j : EReal) := by
    intro s
    induction s using Finset.induction_on with
    | empty => simp
    | insert a s ha ih => rw [Finset.sum_insert ha, Finset.sum_insert ha, scale_add, ih]
  exact h _

/-! ## The recurrence -/

/-- A cell's state (output, content) after `n` steps from zero, its gates at step `t` being `p t` of the output before. -/
def runCell (p : ℕ → EReal → Fin 4 → EReal) : ℕ → EReal × EReal
  | 0 => (0, 0)
  | n + 1 => cellStep (p n (runCell p n).1) (runCell p n).2

/-- The first layer's gates: the input's share and the bias, given together, and the state's share. -/
def gatesA (z : ℕ → Fin 4 → EReal) (u : Fin 4 → EReal) (t : ℕ) (h : EReal) (j : Fin 4) : EReal := z t j + h * u j
/-- The second layer's gates: the share of the first layer's output, the state's share and the bias. -/
def gatesB (w u b : Fin 4 → EReal) (x h : EReal) (j : Fin 4) : EReal := x * w j + h * u j + b j

/-- The first layer after `n` steps, -/
def layerA (z : ℕ → Fin 4 → EReal) (u : Fin 4 → EReal) (n : ℕ) : EReal × EReal := runCell (gatesA z u) n
/-- and the second, fed by the first's outputs. -/
def layerB (z : ℕ → Fin 4 → EReal) (u w u' b : Fin 4 → EReal) (n : ℕ) : EReal × EReal :=
  runCell (fun t h => gatesB w u' b (layerA z u (t + 1)).1 h) n

end Cert.Proof

end
-- ==== Proof.KerStep.lean ====
/-
  The kernel's step at the extended reals: with the gates' shares scaled as the host leaves them, a step is one step of
  each cell, and after `n` steps the first layer has run `n` and the second one fewer.
-/
module

public import proofs.«01_k».proof.Proof.Steps
public import proofs.«01_k».proof.Proof.BodyVal
public import proofs.«01_k».proof.Proof.Cell

@[expose] public section

set_option maxRecDepth 100000

noncomputable section

namespace Cert.Proof.Ker

open Cert.KernelIdeal Cert.KernelIdeal.Gen
open Idealize.ShloMosaic
open Idealize.ShloMosaic.TcCoe Idealize.ShloMosaic.Tactic

/-- A row of four is `p` scaled. -/
def Scaled (g : FVec Ideal S1x4 .f32) (p : Fin 4 → EReal) : Prop := ∀ j : Fin 4, g (ix2 (0 : Fin 1) j) = p j * (scaleOf j : EReal)

/-- A gate's value is the row's at its column. -/
theorem gateAt_ideal (g : FVec Ideal S1x4 .f32) (j : Fin 4) (h : S1x4.Slices ![0, j.val] S1x1) :
    gateAt g j.val h = g (ix2 (0 : Fin 1) j) := by
  fin_cases j <;> pointwise! [gateAt]

theorem half_ideal (p : EReal) :
    half (F := Ideal) halfF (Ideal.tanh (p * ((1 / 2 : ℝ) : EReal))) = Ideal.logistic p := by
  rw [mul_comm, ← logistic_half]
  show (halfF : Ideal .f32) + (halfF : Ideal .f32) * _ = _
  rw [show (halfF : Ideal .f32) = ((1 / 2 : ℝ) : EReal) from bits_half]

variable {g : FVec Ideal S1x4 .f32} {p : Fin 4 → EReal} (hg : Scaled g p)
include hg

/-- The cell's content and output from the tangents of the scaled gates. -/
theorem nextC_ideal (c : EReal) : nextC halfF (tanh g) c = contentOf p c := by
  unfold nextC contentOf
  rw [show gateAt (tanh g) 1 _ = _ from gateAt_ideal (tanh g) 1 slices_S1x4_o0_1_S1x1,
    show gateAt (tanh g) 0 _ = _ from gateAt_ideal (tanh g) 0 slices_S1x4_o0_0_S1x1,
    show gateAt (tanh g) 2 _ = _ from gateAt_ideal (tanh g) 2 slices_S1x4_o0_2_S1x1]
  show half (F := Ideal) halfF (Ideal.tanh (g _)) * c + half (F := Ideal) halfF (Ideal.tanh (g _)) * Ideal.tanh (g _) = _
  rw [hg 1, hg 0, hg 2]
  simp only [scaleOf]
  rw [if_neg (by decide), if_neg (by decide), if_pos trivial, half_ideal, half_ideal, EReal.coe_one, mul_one]

theorem nextH_ideal (c : EReal) : nextH halfF (tanh g) c = outputOf p c := by
  unfold nextH outputOf
  rw [show gateAt (tanh g) 3 _ = _ from gateAt_ideal (tanh g) 3 slices_S1x4_o0_3_S1x1]
  show half (F := Ideal) halfF (Ideal.tanh (g _)) * Ideal.tanh c = _
  rw [hg 3]
  simp only [scaleOf]
  rw [if_neg (by decide), half_ideal]
omit hg

variable {v22 v24 v26 v28 : FVec Ideal S1x4 .f32} {u w u' b : Fin 4 → EReal}
  (h22 : Scaled v22 u) (h24 : Scaled v24 w) (h26 : Scaled v26 u') (h28 : Scaled v28 b)

include h22 in
/-- The first layer's scaled gates, -/
theorem scaledA {R : FVec Ideal S1x4 .f32} {z : Fin 4 → EReal} (hR : Scaled R z) (h : EReal) :
    Scaled (addf R (mulf (broadcast S1x4 (h : Ideal .f32)) v22)) (fun j => z j + h * u j) := by
  intro j
  show R _ + h * v22 _ = _
  rw [hR j, h22 j, scale_add, mul_assoc]

include h24 h26 h28 in
/-- and the second's. -/
theorem scaledB (x h : EReal) :
    Scaled (addf (addf (mulf (broadcast S1x4 (x : Ideal .f32)) v24) (mulf (broadcast S1x4 (h : Ideal .f32)) v26)) v28) (gatesB w u' b x h) := by
  intro j
  show x * v24 _ + h * v26 _ + v28 _ = _
  unfold gatesB
  rw [h24 j, h26 j, h28 j, scale_add, scale_add, mul_assoc, mul_assoc]

theorem mixed_one (new old : EReal) : mixed (F := Ideal) oneF (1 : EReal) new old = new := by
  show (1 : EReal) * new + ((oneF : Ideal .f32) - 1) * old = new
  rw [show (oneF : Ideal .f32) = (1 : EReal) from Ideal.ofBits_one_f32, show (1 : EReal) - 1 = 0 by rw [← EReal.coe_one, ← EReal.coe_sub, sub_self, EReal.coe_zero]]
  simp

theorem mixed_zero (new : EReal) : mixed (F := Ideal) oneF (0 : EReal) new (0 : EReal) = (0 : EReal) := by
  show (0 : EReal) * new + ((oneF : Ideal .f32) - 0) * 0 = 0
  simp

/-- The two cells after `n` steps of the first: the second is a step behind. -/
def cellsAt (z : ℕ → Fin 4 → EReal) (u w u' b : Fin 4 → EReal) (n : ℕ) : Cells Ideal :=
  ((layerA z u n).1, (layerA z u n).2, (layerB z u w u' b (n - 1)).1, (layerB z u w u' b (n - 1)).2)

include h22 h24 h26 h28 in
/-- A step takes the cells on by one, the weight being zero at the very first step and one after it. -/
theorem stepK_ideal (z : ℕ → Fin 4 → EReal) (n : ℕ) {R : FVec Ideal S1x4 .f32} (hR : Scaled R (z n)) {q : EReal}
    (hq : q = if n = 0 then 0 else 1) :
    stepK v22 v24 v26 v28 halfF R q (cellsAt z u w u' b n) = cellsAt z u w u' b (n + 1) := by
  unfold stepK tan0 tan1 cellsAt
  simp only [nextC_ideal (scaledA h22 hR _), nextH_ideal (scaledA h22 hR _), nextC_ideal (scaledB h24 h26 h28 _ _), nextH_ideal (scaledB h24 h26 h28 _ _)]
  refine Prod.ext rfl (Prod.ext rfl ?_)
  rcases n with _ | n
  · rw [hq, if_pos rfl]
    exact Prod.ext (mixed_zero _) (mixed_zero _)
  · rw [hq, if_neg (by omega)]
    exact Prod.ext (mixed_one _ _) (mixed_one _ _)

end Cert.Proof.Ker

end
-- ==== Proof.KerReads.lean ====
/-
  What a trip reads: its twenty rows of the gate inputs and its block of ten thousand rows of the features.
-/
module

public import proofs.«01_k».proof.Proof.KerStep
public import Idealize.ShloMosaic.Lib.Pipeline.Value

@[expose] public section

set_option maxRecDepth 100000

noncomputable section

namespace Cert.Proof.Ker

open Cert.KernelIdeal Cert.KernelIdeal.Gen
open Idealize.ShloMosaic
open Idealize.ShloMosaic.TcCoe Idealize.ShloMosaic.Tactic
open Idealize.SL Idealize.SL.Sem

variable {F : FTy → Type} [FloatOps F] [Named F]

theorem trip_lt (k : Fin k0_t1_loop.trips) : k.val < 10 := lt_of_lt_of_eq k.isLt trips_eq

/-- A load's offsets may be named otherwise. -/
theorem readAt_congr {sp : Space} {s : Shape} {e : EltTy} (v : View sig .tc sp s e) (f : v.ty.Contents (Elt F)) {off off' size : Fin s.rank → ℕ} (h : off = off')
    (inb : ∀ a, off a + size a ≤ s.size a) (inb' : ∀ a, off' a + size a ≤ s.size a) :
    v.readAt (Elt F) (Rect.unit off size inb).toLoadRect f = v.readAt (Elt F) (Rect.unit off' size inb').toLoadRect f := by
  subst h; rfl

/-- A row of a slab, at a column. -/
theorem rowAt_apply (x : FVec F S20x4 .f32) (n : ℕ) (h : n < 20) (j : Fin 4) :
    rowAt x n (ix2 (0 : Fin 1) j) = x (ix2 (⟨n, h⟩ : Fin 20) j) := by
  unfold rowAt
  rw [dif_pos h]
  exact congrArg x (funext fun a => by fin_cases a <;> exact Fin.ext (by simp [ix2]))

section
variable (c : Dev nD) (X : Buf (Elt F) (xM.view.loc (c : Thread nD τ))) (arg14 : Memref sig .tc .vmem S200x4 .f32)
  (x3 : Vec F S200x18 .f32) (x4 : Vec F S18x4 .f32) (x6 : Vec F S1x4 .f32)

/-- A trip's slab holds its twenty rows of the gate inputs. -/
theorem slabAt_apply (k : Fin k0_t1_loop.trips) (n : Fin 20) (j : Fin 4) (h : 20 * k.val + n.val < 200) :
    slabAt c arg14 (scratchAt c arg14 x3 x4 x6) k (ix2 n j) = k0_pay218 x3 x4 x6 (ix2 (⟨20 * k.val + n.val, h⟩ : Fin 200) j) := by
  unfold slabAt scratchAt
  have e : k0_off4 k = ![20 * k.val, 0] := k0_off4_eq k
  have hk := trip_lt k
  rw [View.readAt_unit arg14.view _ _ e (fun a => by fin_cases a <;> simp <;> omega),
    View.read_writes_full]
  unfold VecWindow.window
  refine congrArg (k0_pay218 x3 x4 x6) (funext fun a => ?_)
  fin_cases a <;> exact Fin.ext (by simp [ix2, Rect.unit, Rect.emb])

/-- A trip's block holds its ten thousand rows of the features. -/
theorem blockAt_apply (k : Fin k0_t1_loop.trips) (r : Fin 10000) (j : Fin 140) (h : 10000 * k.val + r.val < 100000) :
    shapeCast S10000x140 (blockAt c X k) shapeCasts_S1x10000x140_S10000x140 (ix2 r j)
      = (X : S100000x140.Idx → F .f32) (ix2 (⟨10000 * k.val + r.val, h⟩ : Fin 100000) j) := by
  have hk := trip_lt k
  have e := off8_eq k
  have hb : blockAt c X k = View.readAt (Elt F) bufM.view (Rect.unit (s := S2x10000x140) (slotOff (Ring.sl 2 k.val)) S1x10000x140.size (slotOff_inb _)).toLoadRect
    ((rslot (Ring.sl 2 k.val)).view.writes (Elt F) (rslot (Ring.sl 2 k.val)).view.junk
      [⟨Rect.whole S10000x140, ReadAs.same.apply (View.read (Elt F) (blk (Ring.bk 10 k.val)).view X)⟩]) := by
    exact readAt_congr _ _ e _ _
  rw [hb]
  have hr := Memref.read_squeeze_slice (Val := Elt F) bufM (Rect.unit (s := S2x10000x140) (slotOff (Ring.sl 2 k.val)) S1x10000x140.size (slotOff_inb _)) (fun _ => rfl)
    squeezes_S1x10000x140_S10000x140 shapeCasts_S1x10000x140_S10000x140
    ((rslot (Ring.sl 2 k.val)).view.writes (Elt F) (rslot (Ring.sl 2 k.val)).view.junk
      [⟨Rect.whole S10000x140, ReadAs.same.apply (View.read (Elt F) (blk (Ring.bk 10 k.val)).view X)⟩])
  refine (congrFun hr.symm _).trans ?_
  have hw := View.read_writes_whole (Val := Elt F) (rslot (Ring.sl 2 k.val)).view (rslot (Ring.sl 2 k.val)).view.junk
    (ReadAs.same.apply (View.read (Elt F) (blk (Ring.bk 10 k.val)).view X))
  refine (congrFun hw _).trans ?_
  have hbk : (Ring.bk 10 k.val).val = k.val := Ring.bk_val hk
  show X _ = X _
  refine congrArg X (funext fun a => ?_)
  fin_cases a
  · exact Fin.ext (by show 10000 * (Ring.bk 10 k.val).val + 1 * r.val = 10000 * k.val + r.val; rw [hbk]; omega)
  · exact Fin.ext (by show 0 + 1 * j.val = j.val; omega)
end

end Cert.Proof.Ker

end
-- ==== Proof.Spec.lean ====
/-
  The value both programs compute, in the arguments: the mean over the nodes of the cut-off layer and of the first
  feature, the second layer's last output, their two weights and the bias.
-/
module

public import proofs.«01_k».proof.Proof.Cell

@[expose] public section

noncomputable section

namespace Cert.Proof

open Idealize.ShloMosaic

/-- Arrays of extended reals of one, two and three axes. -/
abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal

/-- A feature of node `n`. -/
def featAt (X : A2 100000 140) (n : ℕ) (j : Fin 140) : EReal :=
  if h : n < 100000 then X (ix2 (⟨n, h⟩ : Fin 100000) j) else 0

/-- The layer's value at node `n`, cut off below at zero. -/
def nodeAt (X : A2 100000 140) (w : Fin 140 → EReal) (b : EReal) (n : ℕ) : EReal :=
  max (∑ j, featAt X n j * w j + b) 0

/-- The sum over the nodes: the layer's values and the first features. -/
def nodeSum (X : A2 100000 140) (W : A2 1 140) (b : A1 1) : EReal :=
  ∑ n ∈ Finset.range 100000, nodeAt X (fun j => W (ix2 (0 : Fin 1) j)) (b (ix1 (0 : Fin 1))) n
    + ∑ n ∈ Finset.range 100000, featAt X n 0

/-- The input's share of the first layer's gates at step `t`, with both biases. -/
def shareAt (S : A3 1 200 18) (W : A2 4 18) (b b' : A1 4) (t : ℕ) (j : Fin 4) : EReal :=
  if h : t < 200 then ∑ k : Fin 18, S (ix3 (0 : Fin 1) (⟨t, h⟩ : Fin 200) k) * W (ix2 j k) + (b (ix1 j) + b' (ix1 j)) else 0

/-- A column of weights, and two biases together. -/
def colOf (W : A2 4 1) (j : Fin 4) : EReal := W (ix2 j (0 : Fin 1))
def biasOf (b b' : A1 4) (j : Fin 4) : EReal := b (ix1 j) + b' (ix1 j)

/-- The second layer's last output. -/
def lastOut (S : A3 1 200 18) (W0 : A2 4 18) (U0 : A2 4 1) (b0 b0' : A1 4) (W1 U1 : A2 4 1) (b1 b1' : A1 4) : EReal :=
  (layerB (shareAt S W0 b0 b0') (colOf U0) (colOf W1) (colOf U1) (biasOf b1 b1') 200).1

/-- The result. -/
def resultOf (X : A2 100000 140) (S : A3 1 200 18) (W : A2 1 140) (b : A1 1) (W0 : A2 4 18) (U0 : A2 4 1) (b0 b0' : A1 4)
    (W1 U1 : A2 4 1) (b1 b1' : A1 4) (wf : A2 1 2) (bf : A1 1) : EReal :=
  nodeSum X W b * ((1 / 100000 : ℝ) : EReal) * wf (ix2 (0 : Fin 1) (0 : Fin 2))
    + lastOut S W0 U0 b0 b0' W1 U1 b1 b1' * wf (ix2 (0 : Fin 1) (1 : Fin 2)) + bf (ix1 (0 : Fin 1))

end Cert.Proof

end
-- ==== Proof.KerLoop.lean ====
/-
  What ten trips leave at the extended reals: the sum over all nodes, and the two cells after two hundred steps of the
  first, the second a step behind.
-/
module

public import proofs.«01_k».proof.Proof.KerReads
public import proofs.«01_k».proof.Proof.Spec

@[expose] public section

set_option maxRecDepth 100000

noncomputable section

namespace Cert.Proof.Ker

open Cert.KernelIdeal Cert.KernelIdeal.Gen
open Idealize.ShloMosaic
open Idealize.ShloMosaic.TcCoe Idealize.ShloMosaic.Tactic
open Idealize.SL Idealize.SL.Sem

/-- A trip's condition on its number, as a bit: it is not the first. -/
theorem keep_word : ∀ k : Fin k0_t1_loop.trips,
    (Scalar.extui (Scalar.cmpi CmpIPredicate.sge (Scalar.addi (Scalar.muli (Scf.iv 0#32 1#32 k) 20#32) 0#32) 1#32) : BitVec 32)
      = if k.val = 0 then 0#32 else 1#32 := by decide +kernel

/-- The weight of a step is zero at the very first and one at every other. -/
theorem keepAt_ideal (k : Fin k0_t1_loop.trips) (n : ℕ) :
    keepAt (F := Ideal) k n = (if 20 * k.val + n = 0 then (0 : EReal) else 1) := by
  rcases n with _ | n
  · show Scalar.sitofp (F := Ideal) .f32 (Scalar.extui (Scalar.cmpi CmpIPredicate.sge (Scalar.addi (Scalar.muli (Scf.iv 0#32 1#32 k) 20#32) 0#32) 1#32) : BitVec 32) = _
    rw [keep_word k]
    by_cases h : k.val = 0
    · rw [if_pos h, if_pos (by omega)]; simp
    · rw [if_neg h, if_neg (by omega)]; simp
  · rw [if_neg (by omega)]
    show Scalar.sitofp (F := Ideal) .f32 (1#32 : BitVec 32) = _
    simp

theorem stepsK_succ {F : FTy → Type} [FloatOps F] (v22 v24 v26 v28 : FVec F S1x4 .f32) (r : F .f32) (x : FVec F S20x4 .f32) (q : ℕ → F .f32) (s : Cells F) (n : ℕ) :
    stepsK v22 v24 v26 v28 r x q s (n + 1) = stepK v22 v24 v26 v28 r (rowAt x n) (q n) (stepsK v22 v24 v26 v28 r x q s n) := rfl

section
variable (c : Dev nD) (X : Buf (Elt Ideal) (xM.view.loc (c : Thread nD τ))) (arg14 : Memref sig .tc .vmem S200x4 .f32)
  (x1 : FVec Ideal S140x2 .f32) (x2 : FVec Ideal S1x1 .f32) (x3 : FVec Ideal S200x18 .f32) (x4 : FVec Ideal S18x4 .f32) (x6 : FVec Ideal S1x4 .f32)

/-- The block's contribution to the running sum. -/
theorem pay225_ideal (v18 : FVec Ideal S140x2 .f32) (v20 a : EReal) (B : FVec Ideal S1x10000x140 .f32) :
    k0_pay225 v18 v20 a B = a + ((∑ r : Fin 10000, max (∑ k : Fin 140, shapeCast S10000x140 B shapeCasts_S1x10000x140_S10000x140 (ix2 r k) * v18 (ix2 k (0 : Fin 2)) + v20) 0)
      + ∑ r : Fin 10000, ∑ k : Fin 140, shapeCast S10000x140 B shapeCasts_S1x10000x140_S10000x140 (ix2 r k) * v18 (ix2 k (1 : Fin 2))) := by
  pointwise [k0_pay225]

/-- A sum over the first blocks and the next one's is the sum over one block more. -/
theorem sum_block (f : ℕ → EReal) (k : ℕ) :
    ∑ n ∈ Finset.range (10000 * k), f n + ∑ r : Fin 10000, f (10000 * k + r.val) = ∑ n ∈ Finset.range (10000 * (k + 1)), f n := by
  rw [Nat.mul_succ, Finset.sum_range_add, ← Fin.sum_univ_eq_sum_range (fun r => f (10000 * k + r))]

/-- The running sum, a trip on. -/
theorem node_step (k : Fin k0_t1_loop.trips) (w : Fin 140 → EReal) (e : Fin 140 → EReal) (b : EReal)
    (hw : ∀ j : Fin 140, k0_pay219 (F := Ideal) x1 (ix2 j (0 : Fin 2)) = w j) (he : ∀ j : Fin 140, k0_pay219 (F := Ideal) x1 (ix2 j (1 : Fin 2)) = e j) :
    k0_pay225 (k0_pay219 x1) b (∑ n ∈ Finset.range (10000 * k.val), nodeAt X w b n + ∑ n ∈ Finset.range (10000 * k.val), ∑ j, featAt X n j * e j) (blockAt c X k)
      = ∑ n ∈ Finset.range (10000 * (k.val + 1)), nodeAt X w b n + ∑ n ∈ Finset.range (10000 * (k.val + 1)), ∑ j, featAt X n j * e j := by
  have hk := trip_lt k
  have hf : ∀ (r : Fin 10000) (j : Fin 140), shapeCast S10000x140 (blockAt c X k) shapeCasts_S1x10000x140_S10000x140 (ix2 r j) = featAt X (10000 * k.val + r.val) j := by
    intro r j
    have := r.isLt
    rw [blockAt_apply c X k r j (by omega), featAt, dif_pos (by omega)]
  rw [pay225_ideal, ← sum_block, ← sum_block, add_add_add_comm]
  simp only [hf, hw, he]
  rfl

variable (harg14 : arg14.IsWhole)
  (arg1 : Memref sig .tc .vmem S140x2 .f32) (harg1 : arg1.IsWhole)
  (arg2 : Memref sig .tc .vmem S1x1 .f32) (harg2 : arg2.IsWhole)
  (arg3 : Memref sig .tc .vmem S200x18 .f32) (harg3 : arg3.IsWhole)
  (arg4 : Memref sig .tc .vmem S18x4 .f32) (harg4 : arg4.IsWhole)
  (arg5 : Memref sig .tc .vmem S1x4 .f32) (harg5 : arg5.IsWhole)
  (arg6 : Memref sig .tc .vmem S1x4 .f32) (harg6 : arg6.IsWhole)
  (arg7 : Memref sig .tc .vmem S1x4 .f32) (harg7 : arg7.IsWhole)
  (arg8 : Memref sig .tc .vmem S1x4 .f32) (harg8 : arg8.IsWhole)
  (arg9 : Memref sig .tc .vmem S1x4 .f32) (harg9 : arg9.IsWhole)
  (arg10 : Memref sig .tc .vmem S1x2 .f32) (harg10 : arg10.IsWhole)
  (arg11 : Memref sig .tc .vmem S1x1 .f32) (harg11 : arg11.IsWhole)
  (arg12 : Memref sig .tc .vmem S1x1 .f32) (harg12 : arg12.IsWhole)
  (x5 x7 x8 x9 : FVec Ideal S1x4 .f32)
  {z : ℕ → Fin 4 → EReal} {u w u' b : Fin 4 → EReal} {wn e : Fin 140 → EReal} {bn : EReal}

/-- The inputs staged are the shares the gates and the node sum take. -/
structure Staged (z : ℕ → Fin 4 → EReal) (u w u' b : Fin 4 → EReal) (wn e : Fin 140 → EReal) (bn : EReal) : Prop where
  hz : ∀ (t : Fin 200), ∀ j : Fin 4, k0_pay218 (F := Ideal) x3 x4 x6 (ix2 t j) = z t.val j * (scaleOf j : EReal)
  hu : Scaled (k0_pay221 x5) u
  hw : Scaled (k0_pay222 x7) w
  hu' : Scaled (k0_pay223 x8) u'
  hb : Scaled (k0_pay224 x9) b
  hwn : ∀ j : Fin 140, k0_pay219 (F := Ideal) x1 (ix2 j (0 : Fin 2)) = wn j
  he : ∀ j : Fin 140, k0_pay219 (F := Ideal) x1 (ix2 j (1 : Fin 2)) = e j
  hbn : k0_pay220 (F := Ideal) x2 = bn

variable (H : Staged x1 x2 x3 x4 x6 x5 x7 x8 x9 z u w u' b wn e bn)
include H

/-- The cells after `n` steps of a trip. -/
theorem stepsK_ideal (k : Fin k0_t1_loop.trips) (n : ℕ) (hn : n ≤ 20) :
    stepsK (k0_pay221 x5) (k0_pay222 x7) (k0_pay223 x8) (k0_pay224 x9) halfF (slabAt c arg14 (scratchAt c arg14 x3 x4 x6) k) (keepAt k)
      (cellsAt z u w u' b (20 * k.val)) n = cellsAt z u w u' b (20 * k.val + n) := by
  induction n with
  | zero => rfl
  | succ n ih =>
    have hk := trip_lt k
    rw [stepsK_succ, ih (by omega)]
    refine stepK_ideal H.hu H.hw H.hu' H.hb z (20 * k.val + n) (fun j => ?_) (keepAt_ideal k n)
    rw [rowAt_apply _ n (by omega) j]
    exact (slabAt_apply (F := Ideal) c arg14 x3 x4 x6 k ⟨n, by omega⟩ j (by show 20 * k.val + n < 200; omega)).trans (H.hz _ j)

/-- The values carried before trip `k`. -/
theorem carried_ideal (k : ℕ) (hk : k ≤ 10) :
    carried c X arg14 harg14 arg1 harg1 arg2 harg2 arg3 harg3 arg4 harg4 arg5 harg5 arg6 harg6 arg7 harg7 arg8 harg8 arg9 harg9 arg10 harg10 arg11 harg11 arg12 harg12 x1 x2 x3 x4 x5 x6 x7 x8 x9 k
      = ((∑ n ∈ Finset.range (10000 * k), nodeAt X wn bn n + ∑ n ∈ Finset.range (10000 * k), ∑ j, featAt X n j * e j : EReal), cellsAt z u w u' b (20 * k)) := by
  induction k with
  | zero =>
    have h0 : (zeroF : Ideal .f32) = (0 : EReal) := Ideal.ofBits_zero_f32
    rw [carried_zero, h0]
    simp only [Nat.mul_zero, Finset.range_zero, Finset.sum_empty, add_zero]
    rfl
  | succ k ih =>
    have hlt : k < k0_t1_loop.trips := lt_of_lt_of_eq (by omega) trips_eq.symm
    have hs := carried_succ c X arg14 harg14 arg1 harg1 arg2 harg2 arg3 harg3 arg4 harg4 arg5 harg5 arg6 harg6 arg7 harg7 arg8 harg8 arg9 harg9 arg10 harg10 arg11 harg11 arg12 harg12 x1 x2 x3 x4 x5 x6 x7 x8 x9 ⟨k, hlt⟩
    have hn := node_step c X x1 ⟨k, hlt⟩ wn e bn H.hwn H.he
    have hc := stepsK_ideal c arg14 x1 x2 x3 x4 x6 x5 x7 x8 x9 H ⟨k, hlt⟩ 20 le_rfl
    dsimp only at hs hn hc
    rw [hs, ih (by omega)]
    unfold tripVal
    dsimp only
    rw [H.hbn, hn, hc, Nat.mul_succ 20]
end

end Cert.Proof.Ker

end
-- ==== Proof.KerFinish.lean ====
/-
  What the body stores at the extended reals: the mean over the nodes and the second layer's last output, each with its
  weight, and the last bias.
-/
module

public import proofs.«01_k».proof.Proof.KerLoop

@[expose] public section

set_option maxRecDepth 100000

noncomputable section

namespace Cert.Proof.Ker

open Cert.KernelIdeal Cert.KernelIdeal.Gen
open Idealize.ShloMosaic
open Idealize.ShloMosaic.TcCoe Idealize.ShloMosaic.Tactic
open Idealize.SL Idealize.SL.Sem

section
variable {F : FTy → Type} [FloatOps F] [Named F]

/-- The last output of the second layer, from the values carried out of the loop. -/
def lastH (x7 x8 x9 : Vec F S1x4 .f32) (A : Acc F) : F .f32 :=
  nextH halfF (tan1 (k0_pay222 x7) (k0_pay223 x8) (k0_pay224 x9) A.2.1 A.2.2.2.1)
    (nextC halfF (tan1 (k0_pay222 x7) (k0_pay223 x8) (k0_pay224 x9) A.2.1 A.2.2.2.1) A.2.2.2.2)

/-- The value stored, in the last output and the running sum. -/
theorem finish_eq (x7 x8 x9 : Vec F S1x4 .f32) (x10 : Vec F S1x2 .f32) (x11 : Vec F S1x1 .f32) (A : Acc F) :
    finish x7 x8 x9 x10 x11 A = broadcast S1x1 (Scalar.addf (Scalar.addf
      (Scalar.mulf (Scalar.mulf A.1 (Named.named κ "inv_n" 0x3727C5AC#32)) (extractAt ![0, 0] (extractStridedSlice S1x1 ![0, 0] x10 slices_S1x2_o0_0_S1x1) inpos_S1x1_p0_0))
      (Scalar.mulf (lastH x7 x8 x9 A) (extractAt ![0, 0] (extractStridedSlice S1x1 ![0, 1] x10 slices_S1x2_o0_1_S1x1) inpos_S1x1_p0_0)))
      (extractAt ![0, 0] x11 inpos_S1x1_p0_0)) := by
  sl_kernel_rfl
end

/-- The named constant is one over the number of nodes. -/
theorem inv_n_ideal : (Named.named κ "inv_n" 0x3727C5AC#32 : Ideal .f32) = ((1 / 100000 : ℝ) : EReal) := by
  exact IdealRules.named_const.ideal_named_scalar _ _ _ _ rfl

variable {x1 : FVec Ideal S140x2 .f32} {x2 : FVec Ideal S1x1 .f32} {x3 : FVec Ideal S200x18 .f32} {x4 : FVec Ideal S18x4 .f32} {x5 x6 x7 x8 x9 : FVec Ideal S1x4 .f32}
  {z : ℕ → Fin 4 → EReal} {u w u' b : Fin 4 → EReal} {wn e : Fin 140 → EReal} {bn : EReal}

/-- The last output is the second layer's after two hundred steps. -/
theorem lastH_ideal (H : Staged x1 x2 x3 x4 x6 x5 x7 x8 x9 z u w u' b wn e bn) (a : EReal) :
    lastH x7 x8 x9 ((a, cellsAt z u w u' b 200) : Acc Ideal) = (layerB z u w u' b 200).1 := by
  unfold lastH tan1
  rw [nextC_ideal (scaledB H.hw H.hu' H.hb _ _), nextH_ideal (scaledB H.hw H.hu' H.hb _ _)]
  rfl

/-- The value stored. -/
theorem finish_ideal (H : Staged x1 x2 x3 x4 x6 x5 x7 x8 x9 z u w u' b wn e bn) (x10 : FVec Ideal S1x2 .f32) (x11 : FVec Ideal S1x1 .f32) (a : EReal) (j : S1x1.Idx) :
    finish x7 x8 x9 x10 x11 ((a, cellsAt z u w u' b 200) : Acc Ideal) j
      = a * ((1 / 100000 : ℝ) : EReal) * x10 (ix2 (0 : Fin 1) (0 : Fin 2)) + (layerB z u w u' b 200).1 * x10 (ix2 (0 : Fin 1) (1 : Fin 2)) + x11 (ix2 (0 : Fin 1) (0 : Fin 1)) := by
  rw [finish_eq, lastH_ideal H, inv_n_ideal]
  pointwise!

end Cert.Proof.Ker

end
-- ==== Proof.KerHost.lean ====
/-
  What the windows' arrays hold when the kernel starts: the host's operations on the arguments.
-/
module

public import proofs.«01_k».proof.Proof.KerFinish
public import proofs.«01_k».proof.Proof.Args
public import Idealize.ShloMosaic.Lib.Routing.OpsOne
public import Idealize.ShloMosaic.Lib.Pipeline.Regions
public import Idealize.ShloMosaic.Lib.Pipeline.ValueKit

@[expose] public section

set_option maxRecDepth 100000

noncomputable section

namespace Cert.Proof.Ker

open Cert.KernelIdeal Cert.KernelIdeal.Gen
open Idealize.ShloMosaic
open Idealize.ShloMosaic.TcCoe Idealize.ShloMosaic.Tactic
open Idealize.SL Idealize.SL.Sem

section
variable {F : FTy → Type} [FloatOps F] [Named F]

/-- The gates' scales, as the host's table holds them. -/
def scales : FVec F S1x4 .f32 := fun i => FloatOps.ofBits .f32 (lit0 (S1x4.rowMajor i))

/-- The column with a one at the first feature. -/
def firstCol : FVec F S140x1 .f32 :=
  Host.scatter scatter_S140x1_S2_S__n_01_01_0 (fun _ b => b) (broadcastInDim S140x1 ![] bcast_S_S140x1 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (constant S_ .f32 0x3F800000#32)

/-- The node weights beside that column. -/
def nodeCols (a : FVec F S1x140 .f32) : FVec F S140x2 .f32 :=
  concatenate S140x2 1 [⟨S140x1, shapeCast S140x1 a shapeCasts_S1x140_S140x1⟩, ⟨S140x1, firstCol⟩] concatenates_S140x1_S140x1_S140x2_d1
/-- Four rows of eighteen weights turned and scaled, -/
def turned18 (a : FVec F S4x18 .f32) : FVec F S18x4 .f32 :=
  mulf (transpose S18x4 [1, 0] a transposes_S4x18_S18x4_1_0) (broadcastInDim S18x4 ![0, 1] bcast_S1x4_S18x4_0_1 scales)
/-- four rows of one, -/
def turned1 (a : FVec F S4x1 .f32) : FVec F S1x4 .f32 := mulf (transpose S1x4 [1, 0] a transposes_S4x1_S1x4_1_0) scales
/-- and two biases added and scaled. -/
def biases (a b : FVec F S4 .f32) : FVec F S1x4 .f32 := mulf (shapeCast S1x4 (addf a b) shapeCasts_S4_S1x4) scales

end

section
variable {F : FTy → Type} [FloatOps F] [Named F] (m : (ℓ : Loc nD τ sig) → Buf (Elt F) ℓ) (c : Dev nD)

theorem V_v7 : V m c main_v7 = nodeCols (m (c, main_arg3)) := by chain_rfl
theorem V_v8 : V m c main_v8 = shapeCast S1x1 (m (c, main_arg4) : FVec F S1 .f32) shapeCasts_S1_S1x1 := by chain_rfl
theorem V_v0 : V m c main_v0 = shapeCast S200x18 (m (c, main_arg2) : FVec F S1x200x18 .f32) shapeCasts_S1x200x18_S200x18 := by chain_rfl
theorem V_v11 : V m c main_v11 = turned18 (m (c, main_arg5)) := by chain_rfl
theorem V_v13 : V m c main_v13 = turned1 (m (c, main_arg6)) := by chain_rfl
theorem V_v16 : V m c main_v16 = biases (m (c, main_arg7)) (m (c, main_arg8)) := by chain_rfl
theorem V_v18 : V m c main_v18 = turned1 (m (c, main_arg9)) := by chain_rfl
theorem V_v20 : V m c main_v20 = turned1 (m (c, main_arg10)) := by chain_rfl
theorem V_v23 : V m c main_v23 = biases (m (c, main_arg11)) (m (c, main_arg12)) := by chain_rfl
theorem V_v24 : V m c main_v24 = shapeCast S1x1 (m (c, main_arg14) : FVec F S1 .f32) shapeCasts_S1_S1x1 := by chain_rfl
theorem V_arg13 : V m c main_arg13 = m (c, main_arg13) := by chain_rfl
theorem V_arg0 : XX m c = m (c, main_arg0) := by chain_rfl

/-- The launch's one point. -/
abbrev pt : Fin cfg0.N := ⟨0, by decide⟩
/-- Every window's block starts at the origin. -/
theorem origin : win0_0.index pt = ![0, 0] ∧ win0_1.index pt = ![0, 0] ∧ win0_2.index pt = ![0, 0] ∧ win0_3.index pt = ![0, 0] ∧ win0_4.index pt = ![0, 0] ∧ win0_5.index pt = ![0, 0] ∧ win0_6.index pt = ![0, 0] ∧ win0_7.index pt = ![0, 0] ∧ win0_8.index pt = ![0, 0] ∧ win0_9.index pt = ![0, 0] ∧ win0_10.index pt = ![0, 0] ∧ win0_11.index pt = ![0, 0] := by decide +kernel

theorem iblk_0 : iblk m c 0 pt = V m c main_v7 := by blk_ext! [iblk, origin]
theorem iblk_1 : iblk m c 1 pt = V m c main_v8 := by blk_ext! [iblk, origin]
theorem iblk_2 : iblk m c 2 pt = V m c main_v0 := by blk_ext! [iblk, origin]
theorem iblk_3 : iblk m c 3 pt = V m c main_v11 := by blk_ext! [iblk, origin]
theorem iblk_4 : iblk m c 4 pt = V m c main_v13 := by blk_ext! [iblk, origin]
theorem iblk_5 : iblk m c 5 pt = V m c main_v16 := by blk_ext! [iblk, origin]
theorem iblk_6 : iblk m c 6 pt = V m c main_v18 := by blk_ext! [iblk, origin]
theorem iblk_7 : iblk m c 7 pt = V m c main_v20 := by blk_ext! [iblk, origin]
theorem iblk_8 : iblk m c 8 pt = V m c main_v23 := by blk_ext! [iblk, origin]
theorem iblk_9 : iblk m c 9 pt = V m c main_arg13 := by blk_ext! [iblk, origin]
theorem iblk_10 : iblk m c 10 pt = V m c main_v24 := by blk_ext! [iblk, origin]
end

end Cert.Proof.Ker

end
-- ==== Proof.KerValue.lean ====
/-
  The kernel's result: what its one output element holds after the run, in the arguments.
-/
module

public import proofs.«01_k».proof.Proof.KerHost

@[expose] public section

set_option maxRecDepth 100000

noncomputable section

namespace Cert.Proof.Ker

open Cert.KernelIdeal Cert.KernelIdeal.Gen
open Idealize.ShloMosaic
open Idealize.ShloMosaic.TcCoe Idealize.ShloMosaic.Tactic
open Idealize.SL Idealize.SL.Sem

/-! ## The host's values at an index -/

/-- The scales, entry by entry. -/
theorem scales_ideal (j : Fin 4) : scales (F := Ideal) (ix2 (0 : Fin 1) j) = (scaleOf j : EReal) := by
  show Ideal.ofBits .f32 (lit0 (S1x4.rowMajor (ix2 (0 : Fin 1) j))) = _
  rw [show S1x4.rowMajor (ix2 (0 : Fin 1) j) = j by fin_cases j <;> rfl]
  fin_cases j
  · exact bits_half.trans (by simp [scaleOf])
  · exact bits_half.trans (by simp [scaleOf])
  · exact Ideal.ofBits_one_f32.trans (by simp [scaleOf])
  · exact bits_half.trans (by simp [scaleOf])

/-- The column with a one at the first feature, entry by entry. -/
theorem firstCol_ideal (j : Fin 140) : firstCol (F := Ideal) (ix2 j (0 : Fin 1)) = if j = 0 then (1 : EReal) else 0 := by
  have h := Routing.scatter_cell_signed (R := 140) (C := 1) scatter_S140x1_S2_S__n_01_01_0 rfl rfl rfl
    (broadcastInDim S140x1 ![] bcast_S_S140x1 (constant S_ .f32 0x00000000#32) : FVec Ideal S140x1 .f32)
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (constant S_ .f32 0x3F800000#32) j 0
  refine (show firstCol (F := Ideal) (ix2 j (0 : Fin 1)) = _ from h).trans ?_
  have hz : ∀ i : S2.Idx, (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) i = 0#32 := by
    decide +kernel
  rw [hz, hz]
  by_cases hj : j = 0
  · subst hj
    rw [if_pos ⟨rfl, rfl⟩, if_pos rfl]
    exact Ideal.ofBits_one_f32
  · rw [if_neg (fun q => hj (Fin.ext (by have := q.1; simpa using this.symm))), if_neg hj]
    exact Ideal.ofBits_zero_f32

variable (a2 : FVec Ideal S1x200x18 .f32) (a3 : FVec Ideal S1x140 .f32) (a4 : FVec Ideal S1 .f32) (a5 : FVec Ideal S4x18 .f32) (a6 : FVec Ideal S4x1 .f32)
  (a7 a8 : FVec Ideal S4 .f32) (a9 a10 : FVec Ideal S4x1 .f32) (a11 a12 : FVec Ideal S4 .f32)

theorem turned1_ideal (j : Fin 4) : turned1 a6 (ix2 (0 : Fin 1) j) = colOf a6 j * (scaleOf j : EReal) := by
  show _ * scales (F := Ideal) _ = _
  rw [scales_ideal]
  congr 1
  pointwise! [colOf]

theorem biases_ideal (j : Fin 4) : biases a7 a8 (ix2 (0 : Fin 1) j) = biasOf a7 a8 j * (scaleOf j : EReal) := by
  show _ * scales (F := Ideal) _ = _
  rw [scales_ideal]
  congr 1
  pointwise! [biasOf]

theorem turned18_ideal (k : Fin 18) (j : Fin 4) : turned18 a5 (ix2 k j) = a5 (ix2 j k) * (scaleOf j : EReal) := by
  rw [← scales_ideal]
  pointwise! [turned18]

/-- The host's arrays are staged as the body's run asks. -/
theorem staged : Staged (nodeCols a3) (shapeCast S1x1 a4 shapeCasts_S1_S1x1) (shapeCast S200x18 a2 shapeCasts_S1x200x18_S200x18) (turned18 a5) (biases a7 a8)
    (turned1 a6) (turned1 a9) (turned1 a10) (biases a11 a12)
    (shareAt a2 a5 a7 a8) (colOf a6) (colOf a9) (colOf a10) (biasOf a11 a12) (fun j => a3 (ix2 (0 : Fin 1) j)) (fun j => if j = 0 then 1 else 0) (a4 (ix1 (0 : Fin 1))) where
  hz t j := by
    have e : k0_pay218 (F := Ideal) (shapeCast S200x18 a2 shapeCasts_S1x200x18_S200x18) (turned18 a5) (biases a7 a8) (ix2 t j)
        = ∑ k : Fin 18, a2 (ix3 (0 : Fin 1) t k) * turned18 a5 (ix2 k j) + biases a7 a8 (ix2 (0 : Fin 1) j) := by
      pointwise! [k0_pay218]
    rw [e, shareAt, dif_pos t.isLt, scale_add, scale_sum]
    simp only [turned18_ideal, biases_ideal, mul_assoc]
    rfl
  hu j := by rw [← turned1_ideal]; pointwise! [k0_pay221]
  hw j := by rw [← turned1_ideal]; pointwise! [k0_pay222]
  hu' j := by rw [← turned1_ideal]; pointwise! [k0_pay223]
  hb j := by rw [← biases_ideal]; pointwise! [k0_pay224]
  hwn j := by pointwise! [k0_pay219, nodeCols]
  he j := by rw [← firstCol_ideal]; pointwise! [k0_pay219, nodeCols]
  hbn := by pointwise! [k0_pay220]

/-- A sum against the first feature's indicator is the first feature. -/
theorem first_sum (f : Fin 140 → EReal) : ∑ j, f j * (if j = 0 then (1 : EReal) else 0) = f 0 := by
  rw [Finset.sum_eq_single (0 : Fin 140)]
  · rw [if_pos rfl, mul_one]
  · intro j _ hj; rw [if_neg hj, mul_zero]
  · intro h; exact absurd (Finset.mem_univ _) h

/-! ## The output -/

variable (m : (ℓ : Loc nD τ sig) → Buf (Elt Ideal) ℓ) (c : Dev nD)

/-- What the body stores, in the arguments. -/
theorem outVal_ideal (j : S1x1.Idx) :
    (outVal m c pt : S1x1.Idx → EReal) j = resultOf (m (c, main_arg0)) (m (c, main_arg2)) (m (c, main_arg3)) (m (c, main_arg4)) (m (c, main_arg5)) (m (c, main_arg6))
      (m (c, main_arg7)) (m (c, main_arg8)) (m (c, main_arg9)) (m (c, main_arg10)) (m (c, main_arg11)) (m (c, main_arg12)) (m (c, main_arg13)) (m (c, main_arg14)) := by
  unfold outVal
  rw [bodyRun_val, iblk_0, iblk_1, iblk_2, iblk_3, iblk_4, iblk_5, iblk_6, iblk_7, iblk_8, iblk_9, iblk_10, V_v7, V_v8, V_v0, V_v11, V_v13, V_v16, V_v18, V_v20, V_v23, V_arg13, V_v24]
  have H := staged (m (c, main_arg2)) (m (c, main_arg3)) (m (c, main_arg4)) (m (c, main_arg5)) (m (c, main_arg6)) (m (c, main_arg7)) (m (c, main_arg8)) (m (c, main_arg9)) (m (c, main_arg10)) (m (c, main_arg11)) (m (c, main_arg12))
  rw [carried_ideal (H := H) (k := 10) (hk := le_rfl)]
  refine (finish_ideal H _ _ _ j).trans ?_
  unfold resultOf nodeSum
  simp only [first_sum]
  congr 1
  pointwise!

end Cert.Proof.Ker

end
-- ==== Proof.KerArr.lean ====
/-
  The idealized kernel's result array: what its one point stores, in the arguments.
-/
module

public import proofs.«01_k».proof.Proof.KerValue
public import proofs.«01_k».proof.Proof.Args
public import Idealize.ShloMosaic.Lib.Pipeline.ValueKit

@[expose] public section

set_option maxRecDepth 100000

noncomputable section

namespace Cert.Proof.Ker

open Cert.KernelIdeal Cert.KernelIdeal.Gen
open Idealize.ShloMosaic
open Idealize.ShloMosaic.TcCoe Idealize.ShloMosaic.Tactic
open Idealize.ShloMosaic.Pipeline
open Idealize.SL Idealize.SL.Sem

variable (m : (ℓ : Loc nD τ sig) → Buf (Elt Ideal) ℓ) (c : Dev nD)

/-- The value of the result in the arguments. -/
abbrev resultAt : EReal :=
  resultOf (m (c, main_arg0)) (m (c, main_arg2)) (m (c, main_arg3)) (m (c, main_arg4)) (m (c, main_arg5)) (m (c, main_arg6))
      (m (c, main_arg7)) (m (c, main_arg8)) (m (c, main_arg9)) (m (c, main_arg10)) (m (c, main_arg11)) (m (c, main_arg12)) (m (c, main_arg13)) (m (c, main_arg14))

/-- The result's array at the end. -/
theorem result_arr : (dats m 0 c).arrAt 11 cfg0.N = (fun _ => resultAt m c : S1x1.Idx → EReal) := by
  refine (dats m 0 c).arrAt_eq_of_after_last 11 pt (by decide +kernel) _ fun j => ?_
  rw [after_w11]
  exact outVal_ideal m c _

end Cert.Proof.Ker

end
-- ==== Proof.RefTerms.lean ====
/-
  What the reference's straight stretches of operations leave: the loops' inputs and the mean before the first loop, the
  second loop's inputs between the loops, and the result after.
-/
module

public import proofs.«01_k».proof.Proof.RefRun

@[expose] public section

set_option maxRecDepth 100000

noncomputable section

namespace Cert.Proof.Ref

open Cert.ReferenceIdeal Cert.ReferenceIdeal.Gen
open Idealize.ShloMosaic Idealize.ShloMosaic.TcCoe Idealize.ShloMosaic.Tactic
open Idealize.SL Idealize.SL.Sem
open StableHlo

variable {F : FTy → Type} [FloatOps F]

/-- The arrays of the shape `s` of words. -/
abbrev Wrd (F : FTy → Type) (s : Shape) : Type := (⟨s, .i32⟩ : BufTy).Contents (Elt F)

/-- The layer's values at the nodes, cut off below at zero. -/
def nodesTerm (x : Arr F S100000x140) (w : Arr F S1x140) (b : Arr F S1) : Arr F S100000x1 :=
  maximumf (addf (Host.dotGeneral dot_S100000x140_S140x1_S100000x1_1_0_0_1_n_n none x (transpose S140x1 [1, 0] w transposes_S1x140_S140x1_1_0))
      (broadcastInDim S100000x1 ![0, 1] bcast_S1x1_S100000x1_0_1 (broadcastInDim S1x1 ![1] bcast_S1_S1x1_1 b)))
    (broadcastInDim S100000x1 ![] bcast_S_S100000x1 (constant S_ .f32 0x00000000#32))

/-- The edges' target nodes as given, -/
def colsTerm (e : Wrd F S2x100000) : Wrd F S100000 :=
  shapeCast S100000 (extractStridedSlice S1x100000 ![1, 0] e slices_S2x100000_S1x100000_1_0) shapeCasts_S1x100000_S100000

/-- and the positions the features are added at: a negative target counts from the end, and the column is the only one. -/
def placesTerm (e : Wrd F S2x100000) : Wrd F S100000x2 :=
  concatenate S100000x2 1
    [⟨S100000x1, broadcastInDim S100000x1 ![0] bcast_S100000_S100000x1_0
        (select (cmpi .slt (colsTerm (F := F) e) (broadcastInDim S100000 ![] bcast_S_S100000 (constantI S_ 32 0#32)))
          (addi (colsTerm (F := F) e) (broadcastInDim S100000 ![] bcast_S_S100000 (constantI S_ 32 100000#32))) (colsTerm (F := F) e))⟩,
     ⟨S100000x1, broadcastInDim S100000x1 ![0] bcast_S100000_S100000x1_0
        (broadcastInDim S100000 ![] bcast_S_S100000 (constantI S_ 32 0#32))⟩]
    concatenates_S100000x1_S100000x1_S100000x2_d1

/-- The first features. -/
def firstTerm (x : Arr F S100000x140) : Arr F S100000 :=
  shapeCast S100000 (extractStridedSlice S100000x1 ![0, 0] x slices_S100000x140_S100000x1_0_0) shapeCasts_S100000x1_S100000

/-- The mean over the nodes of the layer's values, the first features added at the edges' targets. -/
def meanTerm (x : Arr F S100000x140) (e : Wrd F S2x100000) (w : Arr F S1x140) (b : Arr F S1) : Arr F S1x1 :=
  broadcastInDim S1x1 ![0] bcast_S1_S1x1_0
    (Host.divf
      (Host.reduceAdd (Host.scatterAdd scatter_S100000x1_S100000x2_S100000_n_01_01_1 (nodesTerm x w b) (placesTerm (F := F) e) (firstTerm x))
        (constant S_ .f32 0x00000000#32) reducesTo_S100000x1_S1_d0 h_S_)
      (broadcastInDim S1 ![] bcast_S_S1 (constant S_ .f32 0x47C35000#32)))

/-- The cells' start, and the outputs'. -/
def zero11 : Arr F S1x1 := broadcastInDim S1x1 ![] bcast_S_S1x1 (constant S_ .f32 0x00000000#32)
def zeroYs : Arr F S200x1x1 := broadcastInDim S200x1x1 ![] bcast_S_S200x1x1 (constant S_ .f32 0x00000000#32)

/-- The first loop's input sequence, -/
def seqTerm (s : Arr F S1x200x18) : Arr F S200x1x18 := transpose S200x1x18 [1, 0, 2] s transposes_S1x200x18_S200x1x18_1_0_2
/-- the outputs turned to the result's order, -/
def turnTerm (ys : Arr F S200x1x1) : Arr F S1x200x1 := transpose S1x200x1 [1, 0, 2] ys transposes_S200x1x1_S1x200x1_1_0_2
/-- and the second loop's input sequence. -/
def seq2Term (ys : Arr F S200x1x1) : Arr F S200x1x1 := transpose S200x1x1 [1, 0, 2] (turnTerm ys) transposes_S1x200x1_S200x1x1_1_0_2

/-- The result from the mean and the second loop's outputs. -/
def finalTerm (g : Arr F S1x1) (ys : Arr F S200x1x1) (wf : Arr F S1x2) (bf : Arr F S1) : Arr F S1x1 :=
  addf (Host.dotGeneral dot_S1x2_S2x1_S1x1_1_0_0_1_n_n none
      (concatenate S1x2 1 [⟨S1x1, g⟩, ⟨S1x1, shapeCast S1x1 (extractStridedSlice S1x1x1 ![0, 199, 0] (turnTerm ys) slices_S1x200x1_S1x1x1_0_199_0) shapeCasts_S1x1x1_S1x1⟩]
        concatenates_S1x1_S1x1_S1x2_d1)
      (transpose S2x1 [1, 0] wf transposes_S1x2_S2x1_1_0))
    (broadcastInDim S1x1 ![1] bcast_S1_S1x1_1 bf)

variable (V : Valuation τ sig (Elt F))

/-! Before the first loop. -/

theorem pre_cut : after opsA_1 (after opsA_0 V) main_v5 = nodesTerm (V main_arg0) (V main_arg3) (V main_arg4) := by chain_rfl
theorem pre_mean0 : after opsA_2 V main_v24
    = broadcastInDim S1x1 ![0] bcast_S1_S1x1_0
    (Host.divf
      (Host.reduceAdd (Host.scatterAdd scatter_S100000x1_S100000x2_S100000_n_01_01_1 (V main_v5 : Arr F S100000x1) (placesTerm (F := F) (V main_arg1)) (firstTerm (V main_arg0)))
        (constant S_ .f32 0x00000000#32) reducesTo_S100000x1_S1_d0 h_S_)
      (broadcastInDim S1 ![] bcast_S_S1 (constant S_ .f32 0x47C35000#32))) := by chain_rfl
/-- The mean. -/
theorem pre_mean : afterL preI V main_v24 = meanTerm (V main_arg0) (V main_arg1) (V main_arg3) (V main_arg4) := by
  rw [show afterL preI V main_v24 = after opsA_2 (after opsA_1 (after opsA_0 V)) main_v24 by rfl, pre_mean0, pre_cut,
    show after opsA_1 (after opsA_0 V) main_arg0 = V main_arg0 by chain_rfl, show after opsA_1 (after opsA_0 V) main_arg1 = V main_arg1 by chain_rfl]
  rfl
/-- The first loop's sequence, weights, biases and start. -/
theorem pre_0 : afterL preI V main_v29_0 = seqTerm (V main_arg2) := by chain_rfl
theorem pre_1 : afterL preI V main_v29_1 = V main_arg5 := by chain_rfl
theorem pre_2 : afterL preI V main_v29_2 = V main_arg7 := by chain_rfl
theorem pre_3 : afterL preI V main_v29_3 = V main_arg6 := by chain_rfl
theorem pre_4 : afterL preI V main_v29_4 = V main_arg8 := by chain_rfl
theorem pre_6 : afterL preI V main_v29_6 = zero11 := by chain_rfl
theorem pre_7 : afterL preI V main_v29_7 = zero11 := by chain_rfl

/-! Between the loops. -/

/-- The second loop's sequence, weights, biases and start. -/
theorem mid_0 : afterL midI (after condOps0 V) main_v35_0 = seq2Term (V main_v29_8) := by chain_rfl
theorem mid_1 : afterL midI (after condOps0 V) main_v35_1 = V main_arg9 := by chain_rfl
theorem mid_2 : afterL midI (after condOps0 V) main_v35_2 = V main_arg11 := by chain_rfl
theorem mid_3 : afterL midI (after condOps0 V) main_v35_3 = V main_arg10 := by chain_rfl
theorem mid_4 : afterL midI (after condOps0 V) main_v35_4 = V main_arg12 := by chain_rfl
theorem mid_6 : afterL midI (after condOps0 V) main_v35_6 = zero11 := by chain_rfl
theorem mid_7 : afterL midI (after condOps0 V) main_v35_7 = zero11 := by chain_rfl

/-! The mean is kept by the loops and between them. -/

theorem mean_step0 : step0 V main_v24 = V main_v24 := by chain_rfl
theorem mean_mid : afterL midI (after condOps0 V) main_v24 = V main_v24 := by chain_rfl
theorem mean_step1 : step1 V main_v24 = V main_v24 := by chain_rfl

/-- The result, after the loops. -/
theorem end_eq : afterL endI (after condOps1 V) main_v43 = finalTerm (V main_v24) (V main_v35_8) (V main_arg13) (V main_arg14) := by chain_rfl

end Cert.Proof.Ref

end
-- ==== Proof.RefCell.lean ====
/-
  The reference's cell at the extended reals: the rows it reads and replaces, its gates, and its update as the cell's
  step.
-/
module

public import proofs.«01_k».proof.Proof.RefTerms
public import proofs.«01_k».proof.Proof.Spec
public import Idealize.ShloMosaic.Lib.Pointwise
public import Idealize.ShloMosaic.Lib.WordCmp

@[expose] public section

set_option maxRecDepth 100000

noncomputable section

namespace Cert.Proof.Ref

open Cert.ReferenceIdeal Cert.ReferenceIdeal.Gen
open Idealize.ShloMosaic

/-- The counter before trip `k`, as an array. -/
abbrev ctrAt (F : FTy → Type) [FloatOps F] (k : ℕ) : Ctr F := fun _ => (Scf.iv 0#32 1#32 k : BitVec 32)

/-- Read signed it is the trip's number. -/
theorem ctr_toInt : ∀ k : Fin 200, (Scf.iv 0#32 1#32 k.val : BitVec 32).toInt = (k.val : Int) := by decide +kernel

/-- The first element of a one-element array is the one at position zero. -/
theorem at00 {α : Type} (x : S1x1.Idx → α) (j : S1x1.Idx) : x j = x (ix2 (0 : Fin 1) (0 : Fin 1)) := by
  congr 1
  funext a
  fin_cases a <;> exact Subsingleton.elim (α := Fin 1) _ _

section
variable {F : FTy → Type} [FloatOps F]

/-- The starts of the row read or replaced at trip `k`: the trip's number, and zero on the other axes. -/
theorem starts_at (k : Fin 200) (a : Fin 3) :
    ((![ctrAt F k.val, constantI S_ 32 0#32, constantI S_ 32 0#32] : Fin 3 → Ctr F) a (Shape.Idx.first h_S_)).toInt
      = (((![k.val, 0, 0] : Fin 3 → ℕ) a : ℕ) : Int) := by
  fin_cases a
  · exact ctr_toInt k
  · rfl
  · rfl

/-- The row of trip `k`, of 18 floats. -/
theorem row18_apply (xs : Arr F S200x1x18) (k : Fin 200) (j : Fin 18) :
    row18 xs (ctrAt F k.val) (ix2 (0 : Fin 1) j) = xs (ix3 k (0 : Fin 1) j) := by
  have hs : S200x1x18.Slices (![k.val, 0, 0] : Fin 3 → ℕ) S1x1x18 := ⟨rfl, fun a => by have := k.isLt; fin_cases a <;> simp <;> omega⟩
  unfold row18
  rw [WordCmp.dynamicSlice_eq_extract S1x1x18 xs _ _ (![k.val, 0, 0] : Fin 3 → ℕ) hs (starts_at k)]
  pointwise

/-- The row of trip `k`, of one. -/
theorem row1_apply (xs : Arr F S200x1x1) (k : Fin 200) :
    row1 xs (ctrAt F k.val) (ix2 (0 : Fin 1) (0 : Fin 1)) = xs (ix3 k (0 : Fin 1) (0 : Fin 1)) := by
  have hs : S200x1x1.Slices (![k.val, 0, 0] : Fin 3 → ℕ) S1x1x1 := ⟨rfl, fun a => by have := k.isLt; fin_cases a <;> simp <;> omega⟩
  unfold row1
  rw [WordCmp.dynamicSlice_eq_extract S1x1x1 xs _ _ (![k.val, 0, 0] : Fin 3 → ℕ) hs (starts_at k)]
  pointwise

/-- The sequence with row `k` replaced holds the new row there and the old rows elsewhere. -/
theorem putRow_apply (ys : Arr F S200x1x1) (k i : Fin 200) (h : Arr F S1x1) :
    putRow ys (ctrAt F k.val) h (ix3 i (0 : Fin 1) (0 : Fin 1))
      = if i = k then h (ix2 (0 : Fin 1) (0 : Fin 1)) else ys (ix3 i (0 : Fin 1) (0 : Fin 1)) := by
  have hs : S200x1x1.Slices (![k.val, 0, 0] : Fin 3 → ℕ) S1x1x1 := ⟨rfl, fun a => by have := k.isLt; fin_cases a <;> simp <;> omega⟩
  unfold putRow
  rw [WordCmp.dynamicUpdateSlice_eq_update ys _ _ _ (![k.val, 0, 0] : Fin 3 → ℕ) hs (starts_at k)]
  unfold updateSlice
  by_cases hik : i = k
  · subst hik
    rw [if_pos rfl, dif_pos (fun a => by fin_cases a <;> simp)]
    exact at00 h _
  · rw [if_neg hik, dif_neg (fun hin => hik ?_)]
    have := hin 0
    exact Fin.ext (by simp at this; omega)
end

/-- The gates at the extended reals. -/
theorem gates_apply (px : Arr Ideal S1x4) (bih : Arr Ideal S4) (whh : Arr Ideal S4x1) (bhh : Arr Ideal S4) (h : Arr Ideal S1x1) (j : Fin 4) :
    gates (F := Ideal) px bih whh bhh h (ix2 (0 : Fin 1) j)
      = (px (ix2 (0 : Fin 1) j) : EReal) + bih (ix1 j) + h (ix2 (0 : Fin 1) (0 : Fin 1)) * whh (ix2 j (0 : Fin 1)) + bhh (ix1 j) := by
  pointwise [gates]
  rw [Fin.sum_univ_one]

/-- The input's share, of rows of 18 floats, -/
theorem share18_apply (x : Arr Ideal S1x18) (w : Arr Ideal S4x18) (j : Fin 4) :
    (share18 (F := Ideal) x w (ix2 (0 : Fin 1) j) : EReal) = ∑ k : Fin 18, (x (ix2 (0 : Fin 1) k) : EReal) * w (ix2 j k) := by
  pointwise [share18]

/-- and of rows of one. -/
theorem share1_apply (x : Arr Ideal S1x1) (w : Arr Ideal S4x1) (j : Fin 4) :
    (share1 (F := Ideal) x w (ix2 (0 : Fin 1) j) : EReal) = (x (ix2 (0 : Fin 1) (0 : Fin 1)) : EReal) * w (ix2 j (0 : Fin 1)) := by
  pointwise [share1]
  rw [Fin.sum_univ_one]

/-- The logistic function. -/
theorem logi_apply (x : Arr Ideal S1x1) : (logi (F := Ideal) x (ix2 (0 : Fin 1) (0 : Fin 1)) : EReal) = Ideal.logistic (x (ix2 (0 : Fin 1) (0 : Fin 1))) := by
  have h1 : (one11 (F := Ideal) (ix2 (0 : Fin 1) (0 : Fin 1)) : EReal) = 1 := Ideal.ofBits_one_f32
  show Ideal.div (one11 (F := Ideal) (ix2 (0 : Fin 1) (0 : Fin 1))) (one11 (F := Ideal) (ix2 (0 : Fin 1) (0 : Fin 1)) + Ideal.exp (-(x (ix2 (0 : Fin 1) (0 : Fin 1)) : EReal))) = _
  rw [h1]
  rfl

/-- A gate taken from the four. -/
theorem gate_apply {F : FTy → Type} [FloatOps F] (g : Arr F S1x4) (n : ℕ) (hn : n < 4) (h : S1x4.Slices ![0, n] S1x1) :
    extractStridedSlice S1x1 ![0, n] g h (ix2 (0 : Fin 1) (0 : Fin 1)) = g (ix2 (0 : Fin 1) (⟨n, hn⟩ : Fin 4)) := by
  pointwise

/-- The cell's content and output are the cell's. -/
theorem cellC_apply (g : Arr Ideal S1x4) (c : Arr Ideal S1x1) :
    (cellC (F := Ideal) g c (ix2 (0 : Fin 1) (0 : Fin 1)) : EReal) = contentOf (fun j => g (ix2 (0 : Fin 1) j)) (c (ix2 (0 : Fin 1) (0 : Fin 1))) := by
  show (logi (F := Ideal) (extractStridedSlice S1x1 ![0, 1] g slices_S1x4_S1x1_0_1) (ix2 (0 : Fin 1) (0 : Fin 1)) : EReal) * c (ix2 (0 : Fin 1) (0 : Fin 1))
    + logi (F := Ideal) (extractStridedSlice S1x1 ![0, 0] g slices_S1x4_S1x1_0_0) (ix2 (0 : Fin 1) (0 : Fin 1))
      * Ideal.tanh (extractStridedSlice S1x1 ![0, 2] g slices_S1x4_S1x1_0_2 (ix2 (0 : Fin 1) (0 : Fin 1))) = _
  rw [logi_apply, logi_apply, gate_apply (F := Ideal) g 1 (by omega) slices_S1x4_S1x1_0_1, gate_apply (F := Ideal) g 0 (by omega) slices_S1x4_S1x1_0_0, gate_apply (F := Ideal) g 2 (by omega) slices_S1x4_S1x1_0_2]
  rfl
theorem cellH_apply (g : Arr Ideal S1x4) (c : Arr Ideal S1x1) :
    (cellH (F := Ideal) g c (ix2 (0 : Fin 1) (0 : Fin 1)) : EReal) = outputOf (fun j => g (ix2 (0 : Fin 1) j)) (c (ix2 (0 : Fin 1) (0 : Fin 1))) := by
  show (logi (F := Ideal) (extractStridedSlice S1x1 ![0, 3] g slices_S1x4_S1x1_0_3) (ix2 (0 : Fin 1) (0 : Fin 1)) : EReal)
      * Ideal.tanh (c (ix2 (0 : Fin 1) (0 : Fin 1))) = _
  rw [logi_apply, gate_apply (F := Ideal) g 3 (by omega) slices_S1x4_S1x1_0_3]
  rfl

end Cert.Proof.Ref

end
-- ==== Proof.RefLoop.lean ====
/-
  The reference's two loops at the extended reals: after `k` trips each holds the cell's output and content after `k`
  steps, and the outputs of those steps.
-/
module

public import proofs.«01_k».proof.Proof.RefCell
public import proofs.«01_k».proof.Proof.RefArgs

@[expose] public section

set_option maxRecDepth 100000

noncomputable section

namespace Cert.Proof.Ref

open Cert.ReferenceIdeal Cert.ReferenceIdeal.Gen
open Idealize.ShloMosaic Idealize.ShloMosaic.TcCoe
open Idealize.SL Idealize.SL.Sem
open StableHlo

/-- The start of a cell. -/
theorem zero11_apply (j : S1x1.Idx) : (zero11 (F := Ideal) j : EReal) = 0 := Ideal.ofBits_zero_f32

/-- The gates with the first layer's input: the input's share holds both biases. -/
theorem gates_first (x : Arr Ideal S1x18) (w : Arr Ideal S4x18) (b b' : Arr Ideal S4) (u : Arr Ideal S4x1) (h : Arr Ideal S1x1) (j : Fin 4) :
    (gates (F := Ideal) (share18 x w) b u b' h (ix2 (0 : Fin 1) j) : EReal)
      = (∑ k : Fin 18, (x (ix2 (0 : Fin 1) k) : EReal) * w (ix2 j k) + ((b (ix1 j) : EReal) + b' (ix1 j))) + (h (ix2 (0 : Fin 1) (0 : Fin 1)) : EReal) * u (ix2 j (0 : Fin 1)) := by
  rw [gates_apply, share18_apply]
  exact (add_right_comm _ _ _).trans (congrArg (· + _) (add_assoc (G := EReal) _ _ _))

/-- The gates with the second's. -/
theorem gates_second (x : Arr Ideal S1x1) (w : Arr Ideal S4x1) (b b' : Arr Ideal S4) (u : Arr Ideal S4x1) (h : Arr Ideal S1x1) (j : Fin 4) :
    (gates (F := Ideal) (share1 x w) b u b' h (ix2 (0 : Fin 1) j) : EReal)
      = gatesB (colOf w) (colOf u) (biasOf b b') (x (ix2 (0 : Fin 1) (0 : Fin 1))) (h (ix2 (0 : Fin 1) (0 : Fin 1))) j := by
  rw [gates_apply, share1_apply]
  exact (congrArg (· + _) (add_right_comm (G := EReal) _ _ _)).trans (add_assoc (G := EReal) _ _ _)

/-- A sequence turned twice is itself. -/
theorem seq2_apply {F : FTy → Type} [FloatOps F] (ys : Arr F S200x1x1) (i : Fin 200) :
    seq2Term ys (ix3 i (0 : Fin 1) (0 : Fin 1)) = ys (ix3 i (0 : Fin 1) (0 : Fin 1)) := by
  pointwise [seq2Term, turnTerm]

/-- The first loop's sequence holds the steps' rows. -/
theorem seq_apply {F : FTy → Type} [FloatOps F] (s : Arr F S1x200x18) (i : Fin 200) (k : Fin 18) :
    seqTerm s (ix3 i (0 : Fin 1) k) = s (ix3 (0 : Fin 1) i k) := by
  pointwise [seqTerm]

/-- The second layer's gates at trip `k`, the input being the first layer's outputs. -/
theorem gates_row (ys : Arr Ideal S200x1x1) (k : Fin 200) (w : Arr Ideal S4x1) (b b' : Arr Ideal S4) (u : Arr Ideal S4x1) (h : Arr Ideal S1x1) (j : Fin 4) :
    (gates (F := Ideal) (share1 (row1 (seq2Term ys) (ctrAt Ideal k.val)) w) b u b' h (ix2 (0 : Fin 1) j) : EReal)
      = gatesB (colOf w) (colOf u) (biasOf b b') (ys (ix3 k (0 : Fin 1) (0 : Fin 1))) (h (ix2 (0 : Fin 1) (0 : Fin 1))) j := by
  rw [gates_second, row1_apply (F := Ideal) _ k, seq2_apply (F := Ideal)]

section
variable {F : FTy → Type} [FloatOps F] (m : (ℓ : Loc nD τ sig) → Buf (Elt F) ℓ)

/-- An argument array holds through the loops what it held at the start. -/
theorem arg_at0 {b : Ref sig .tc} (h : b ∈ argRefs) (c : Dev nD) (k : ℕ) : T0 m k c b = m ((c.tc : Thread nD τ).loc b) := by
  rw [T0_kept m (args_kept b h).trip0]
  unfold W0
  rw [(args_kept b h).pre]
theorem arg_at1 {b : Ref sig .tc} (h : b ∈ argRefs) (c : Dev nD) (k : ℕ) : T1 m k c b = m ((c.tc : Thread nD τ).loc b) := by
  rw [T1_kept m (args_kept b h).trip1]
  unfold W2
  rw [(args_kept b h).mid, (args_kept b h).exit0, arg_at0 m h c]
end

variable (m : (ℓ : Loc nD τ sig) → Buf (Elt Ideal) ℓ) (c : Dev nD)

/-- The arguments, by what they are. -/
abbrev argS : A3 1 200 18 := m ((c.tc : Thread nD τ).loc main_arg2)
abbrev argW0 : A2 4 18 := m ((c.tc : Thread nD τ).loc main_arg5)
abbrev argU0 : A2 4 1 := m ((c.tc : Thread nD τ).loc main_arg6)
abbrev argB0 : A1 4 := m ((c.tc : Thread nD τ).loc main_arg7)
abbrev argB0' : A1 4 := m ((c.tc : Thread nD τ).loc main_arg8)
abbrev argW1 : A2 4 1 := m ((c.tc : Thread nD τ).loc main_arg9)
abbrev argU1 : A2 4 1 := m ((c.tc : Thread nD τ).loc main_arg10)
abbrev argB1 : A1 4 := m ((c.tc : Thread nD τ).loc main_arg11)
abbrev argB1' : A1 4 := m ((c.tc : Thread nD τ).loc main_arg12)

/-- The first layer. -/
abbrev lay0 : ℕ → EReal × EReal := layerA (shareAt (argS m c) (argW0 m c) (argB0 m c) (argB0' m c)) (colOf (argU0 m c))
/-- The second. -/
abbrev lay1 : ℕ → EReal × EReal :=
  layerB (shareAt (argS m c) (argW0 m c) (argB0 m c) (argB0' m c)) (colOf (argU0 m c)) (colOf (argW1 m c)) (colOf (argU1 m c)) (biasOf (argB1 m c) (argB1' m c))

/-- The gates of the first loop's trip `k`. -/
theorem gates0_at (k : Fin 200) (j : Fin 4) :
    (gates0 (F := Ideal) (T0 m k.val c) (ix2 (0 : Fin 1) j) : EReal)
      = gatesA (shareAt (argS m c) (argW0 m c) (argB0 m c) (argB0' m c)) (colOf (argU0 m c)) k.val
          ((T0 m k.val c main_v29_6 : Arr Ideal S1x1) (ix2 (0 : Fin 1) (0 : Fin 1))) j := by
  unfold gates0
  rw [ctr0 m c, T0_kept m step0_0, T0_kept m step0_1, T0_kept m step0_2, T0_kept m step0_3, T0_kept m step0_4]
  unfold W0
  rw [pre_0, pre_1, pre_2, pre_3, pre_4]
  refine (gates_first _ _ _ _ _ _ j).trans ?_
  unfold gatesA shareAt
  rw [dif_pos k.isLt]
  refine congrArg (· + _) (congrArg (· + _) (Finset.sum_congr rfl fun l _ => ?_))
  refine congrArg (· * _) ?_
  exact (row18_apply (F := Ideal) _ k l).trans (seq_apply (F := Ideal) _ k l)

/-- A loop whose trips update a cell by gates that are functions of the trip and of the cell's output carries the cell
    after so many steps, and the outputs of the steps before. -/
theorem loop_at {H C : ℕ → Arr Ideal S1x1} {G : ℕ → Arr Ideal S1x4} {Y : ℕ → Arr Ideal S200x1x1} {p : ℕ → EReal → Fin 4 → EReal}
    (hH0 : H 0 = zero11) (hC0 : C 0 = zero11) (hC : ∀ k, C (k + 1) = cellC (G k) (C k)) (hH : ∀ k, H (k + 1) = cellH (G k) (cellC (G k) (C k)))
    (hY : ∀ k, Y (k + 1) = putRow (Y k) (ctrAt Ideal k) (cellH (G k) (cellC (G k) (C k))))
    (hG : ∀ (k : Fin 200) (j : Fin 4), (G k.val (ix2 (0 : Fin 1) j) : EReal) = p k.val (H k.val (ix2 (0 : Fin 1) (0 : Fin 1))) j)
    (k : ℕ) (hk : k ≤ 200) :
    (H k (ix2 (0 : Fin 1) (0 : Fin 1)) : EReal) = (runCell p k).1
    ∧ (C k (ix2 (0 : Fin 1) (0 : Fin 1)) : EReal) = (runCell p k).2
    ∧ ∀ i : Fin 200, i.val < k → (Y k (ix3 i (0 : Fin 1) (0 : Fin 1)) : EReal) = (runCell p (i.val + 1)).1 := by
  induction k with
  | zero =>
    refine ⟨?_, ?_, fun i hi => absurd hi (Nat.not_lt_zero _)⟩
    · rw [hH0]; exact zero11_apply _
    · rw [hC0]; exact zero11_apply _
  | succ k ih =>
    obtain ⟨h6, h7, h8⟩ := ih (by omega)
    have hg := funext (hG ⟨k, by omega⟩)
    dsimp only at hg
    rw [h6] at hg
    have eC : (cellC (F := Ideal) (G k) (C k) (ix2 (0 : Fin 1) (0 : Fin 1)) : EReal) = (runCell p (k + 1)).2 := by
      rw [cellC_apply, hg, h7]
      rfl
    have eH : (cellH (F := Ideal) (G k) (cellC (G k) (C k)) (ix2 (0 : Fin 1) (0 : Fin 1)) : EReal) = (runCell p (k + 1)).1 := by
      rw [cellH_apply, eC, hg]
      rfl
    refine ⟨?_, ?_, fun i hi => ?_⟩
    · rw [hH]; exact eH
    · rw [hC]; exact eC
    · rw [hY]
      refine (putRow_apply (F := Ideal) _ ⟨k, by omega⟩ i _).trans ?_
      by_cases hik : i.val = k
      · rw [if_pos (Fin.ext hik), hik]; exact eH
      · rw [if_neg (fun e => hik (congrArg Fin.val e))]
        exact h8 i (by omega)

/-- What the first loop's trips leave in the sequence of outputs. -/
theorem loop0_out (i : Fin 200) :
    ((T0 m 200 c main_v29_8 : Arr Ideal S200x1x1) (ix3 i (0 : Fin 1) (0 : Fin 1)) : EReal) = (lay0 m c (i.val + 1)).1 :=
  (loop_at (H := fun k => T0 m k c main_v29_6) (C := fun k => T0 m k c main_v29_7) (G := fun k => gates0 (T0 m k c)) (Y := fun k => T0 m k c main_v29_8)
    (pre_6 (launchContents m c)) (pre_7 (launchContents m c)) (fun k => step0_c (T0 m k c)) (fun k => step0_h (T0 m k c))
    (fun k => (step0_ys (T0 m k c)).trans (congrArg (fun t => putRow _ t _) (ctr0 m c k))) (gates0_at m c) 200 le_rfl).2.2 i i.isLt

/-- The gates of the second loop's trip `k`. -/
theorem gates1_at (k : Fin 200) (j : Fin 4) :
    (gates1 (F := Ideal) (T1 m k.val c) (ix2 (0 : Fin 1) j) : EReal)
      = gatesB (colOf (argW1 m c)) (colOf (argU1 m c)) (biasOf (argB1 m c) (argB1' m c)) (lay0 m c (k.val + 1)).1
          ((T1 m k.val c main_v35_6 : Arr Ideal S1x1) (ix2 (0 : Fin 1) (0 : Fin 1))) j := by
  unfold gates1
  rw [ctr1 m c, T1_kept m step1_0, T1_kept m step1_1, T1_kept m step1_2, T1_kept m step1_3, T1_kept m step1_4]
  unfold W2
  rw [mid_0, mid_1, mid_2, mid_3, mid_4, arg_at0 m (b := main_arg9) (by decide), arg_at0 m (b := main_arg11) (by decide), arg_at0 m (b := main_arg10) (by decide), arg_at0 m (b := main_arg12) (by decide)]
  refine (gates_row _ k _ _ _ _ _ j).trans ?_
  rw [loop0_out m c k]

/-- What the second loop's trips leave in the sequence of outputs. -/
theorem loop1_out (i : Fin 200) :
    ((T1 m 200 c main_v35_8 : Arr Ideal S200x1x1) (ix3 i (0 : Fin 1) (0 : Fin 1)) : EReal) = (lay1 m c (i.val + 1)).1 :=
  (loop_at (H := fun k => T1 m k c main_v35_6) (C := fun k => T1 m k c main_v35_7) (G := fun k => gates1 (T1 m k c)) (Y := fun k => T1 m k c main_v35_8)
    (mid_6 (T0 m 200 c)) (mid_7 (T0 m 200 c)) (fun k => step1_c (T1 m k c)) (fun k => step1_h (T1 m k c))
    (fun k => (step1_ys (T1 m k c)).trans (congrArg (fun t => putRow _ t _) (ctr1 m c k))) (gates1_at m c) 200 le_rfl).2.2 i i.isLt

end Cert.Proof.Ref

end
-- ==== Proof.RefMean.lean ====
/-
  The reference's mean over the nodes at the extended reals. Where every edge's target is a node, adding the first
  features at the targets and summing over the nodes is summing the nodes' values and the features.
-/
module

public import proofs.«01_k».proof.Proof.RefTerms
public import proofs.«01_k».proof.Proof.Spec
public import Idealize.ShloMosaic.Lib.Pointwise
public import Idealize.ShloMosaic.Lib.DynamicIndex
public import Idealize.ShloMosaic.Lib.Routing.OpsPair

@[expose] public section

set_option maxRecDepth 100000

noncomputable section

namespace Cert.Proof.Ref

open Cert.ReferenceIdeal Cert.ReferenceIdeal.Gen
open Idealize.ShloMosaic

/-- The scatter's dimension numbers. -/
abbrev dAdd : ScatterDims S100000x1 S100000x2 S100000 := scatter_S100000x1_S100000x2_S100000_n_01_01_1

/-- The element of the positions that gives coordinate `q` of the place where update `e` lands. -/
theorem place_idx (e : Fin 100000) (q : Fin 2) (h : List.idxOf q dAdd.scatterDimsToOperandDims < dAdd.scatterDimsToOperandDims.length) :
    dAdd.siIdx (ix1 e) ⟨List.idxOf q dAdd.scatterDimsToOperandDims, h⟩ = ix2 e q := by
  funext b
  apply Fin.ext
  fin_cases b
  · rfl
  · fin_cases q <;> rfl

/-- Where an update's positions start, read signed. -/
theorem place_start (idx : IVec S100000x2 32) (e : Fin 100000) (q : Fin 2) : dAdd.start (ix1 e) idx q = (idx (ix2 e q)).toInt := by
  have hm : q ∈ dAdd.scatterDimsToOperandDims := by fin_cases q <;> decide
  unfold ScatterDims.start
  rw [dif_pos hm]
  exact congrArg (fun i => (idx i).toInt) (place_idx e q _)

/-- An update is one element: its window adds nothing. -/
theorem place_window (e : Fin 100000) (q : Fin 2) : dAdd.window (ix1 e) q = 0 := by
  fin_cases q <;> rfl

/-- Update `e` lands at row `r` exactly when its two positions are `r` and zero. -/
theorem lands (idx : IVec S100000x2 32) (e r : Fin 100000) :
    dAdd.resultIdx? (ix1 e) idx = some (ix2 r (0 : Fin 1))
      ↔ (idx (ix2 e (0 : Fin 2))).toInt = r.val ∧ (idx (ix2 e (1 : Fin 2))).toInt = 0 := by
  rw [Routing.resultIdx?_eq_some]
  constructor
  · intro h
    have h0 := h 0
    have h1 := h 1
    rw [place_start, place_window] at h0 h1
    exact ⟨by simpa using h0, by simpa using h1⟩
  · rintro ⟨h0, h1⟩ a
    rw [place_start, place_window]
    fin_cases a
    · simpa using h0
    · simpa using h1

/-- An edge's target as given. -/
theorem cols_apply {F : FTy → Type} [FloatOps F] (e : Wrd F S2x100000) (i : Fin 100000) : (colsTerm (F := F) e (ix1 i) : BitVec 32) = e (ix2 (1 : Fin 2) i) := by
  pointwise [colsTerm]

/-- The positions at a target that is a node: the node and zero. -/
theorem places_row (e : Wrd Ideal S2x100000) (i : Fin 100000) (h : 0 ≤ (e (ix2 (1 : Fin 2) i) : BitVec 32).toInt) :
    (placesTerm (F := Ideal) e (ix2 i (0 : Fin 2)) : BitVec 32) = e (ix2 (1 : Fin 2) i) := by
  have hsel : (select (cmpi .slt (colsTerm (F := Ideal) e) (broadcastInDim S100000 ![] bcast_S_S100000 (constantI S_ 32 0#32)))
          (addi (colsTerm (F := Ideal) e) (broadcastInDim S100000 ![] bcast_S_S100000 (constantI S_ 32 100000#32))) (colsTerm (F := Ideal) e) (ix1 i) : BitVec 32)
      = e (ix2 (1 : Fin 2) i) := by
    refine (select_slt_zero_of_nonneg _ _ _ (ix1 i) ?_).trans (cols_apply e i)
    rw [cols_apply]; exact h
  refine Eq.trans ?_ hsel
  unfold placesTerm
  generalize (select (cmpi .slt (colsTerm (F := Ideal) e) (broadcastInDim S100000 ![] bcast_S_S100000 (constantI S_ 32 0#32)))
          (addi (colsTerm (F := Ideal) e) (broadcastInDim S100000 ![] bcast_S_S100000 (constantI S_ 32 100000#32))) (colsTerm (F := Ideal) e)) = f
  pointwise
theorem places_col (e : Wrd Ideal S2x100000) (i : Fin 100000) : (placesTerm (F := Ideal) e (ix2 i (1 : Fin 2)) : BitVec 32) = 0#32 := by
  unfold placesTerm
  generalize (select (cmpi .slt (colsTerm (F := Ideal) e) (broadcastInDim S100000 ![] bcast_S_S100000 (constantI S_ 32 0#32)))
          (addi (colsTerm (F := Ideal) e) (broadcastInDim S100000 ![] bcast_S_S100000 (constantI S_ 32 100000#32))) (colsTerm (F := Ideal) e)) = f
  pointwise

/-- A node's value. -/
theorem nodes_apply (x : Arr Ideal S100000x140) (w : Arr Ideal S1x140) (b : Arr Ideal S1) (i : Fin 100000) :
    (nodesTerm (F := Ideal) x w b (ix2 i (0 : Fin 1)) : EReal) = nodeAt x (fun j => w (ix2 (0 : Fin 1) j)) (b (ix1 (0 : Fin 1))) i.val := by
  unfold nodeAt featAt
  simp only [dif_pos i.isLt]
  pointwise [nodesTerm]

/-- A first feature. -/
theorem first_apply (x : Arr Ideal S100000x140) (i : Fin 100000) : (firstTerm (F := Ideal) x (ix1 i) : EReal) = featAt x i.val 0 := by
  unfold featAt
  rw [dif_pos i.isLt]
  pointwise [firstTerm]

/-- Sums over the rows of values, with other values added at rows that a function gives, are the two sums. -/
theorem sum_added {n : ℕ} (v u : Fin n → EReal) (g : Fin n → Fin n) :
    ∑ r, (v r + ∑ e ∈ Finset.univ.filter (fun e => g e = r), u e) = ∑ r, v r + ∑ e, u e := by
  rw [Finset.sum_add_distrib, Finset.sum_fiberwise]

/-- Every edge's target is a node. -/
def InRange (e : Wrd Ideal S2x100000) : Prop :=
  ∀ i : Fin 100000, 0 ≤ (e (ix2 (1 : Fin 2) i) : BitVec 32).toInt ∧ (e (ix2 (1 : Fin 2) i) : BitVec 32).toInt < 100000

/-- The node an edge goes to. -/
def target (e : Wrd Ideal S2x100000) (he : InRange e) (i : Fin 100000) : Fin 100000 :=
  ⟨(e (ix2 (1 : Fin 2) i) : BitVec 32).toInt.toNat, by have := he i; omega⟩

/-- A row after the features are added. -/
theorem added_apply (v : Arr Ideal S100000x1) (e : Wrd Ideal S2x100000) (he : InRange e) (u : Arr Ideal S100000) (r : Fin 100000) :
    (Host.scatterAdd (F := Ideal) (φ := .f32) dAdd v (placesTerm (F := Ideal) e) u (ix2 r (0 : Fin 1)) : EReal)
      = (v (ix2 r (0 : Fin 1)) : EReal) + ∑ i ∈ Finset.univ.filter (fun i => target e he i = r), (u (ix1 i) : EReal) := by
  show (v (ix2 r (0 : Fin 1)) : EReal) + ∑ j ∈ Finset.univ.filter (fun j => dAdd.resultIdx? j (placesTerm (F := Ideal) e) = some (ix2 r (0 : Fin 1))), (u j : EReal) = _
  refine congrArg ((v (ix2 r (0 : Fin 1)) : EReal) + ·) ?_
  rw [Finset.sum_filter, Finset.sum_filter, sum_idx1]
  refine Finset.sum_congr rfl fun i _ => if_congr ?_ rfl rfl
  rw [lands, places_row e i (he i).1, places_col]
  have h0 := (he i).1
  constructor
  · rintro ⟨h, _⟩
    exact Fin.ext (by show (e (ix2 (1 : Fin 2) i) : BitVec 32).toInt.toNat = r.val; omega)
  · intro h
    have : (e (ix2 (1 : Fin 2) i) : BitVec 32).toInt.toNat = r.val := congrArg Fin.val h
    exact ⟨by omega, rfl⟩

/-- The mean's total. -/
theorem total_apply (x : Arr Ideal S100000x140) (e : Wrd Ideal S2x100000) (he : InRange e) (w : Arr Ideal S1x140) (b : Arr Ideal S1) (j : S1.Idx) :
    (Host.reduceAdd (F := Ideal) (φ := .f32) (Host.scatterAdd (F := Ideal) (φ := .f32) dAdd (nodesTerm x w b) (placesTerm (F := Ideal) e) (firstTerm x))
        (constant S_ .f32 0x00000000#32) reducesTo_S100000x1_S1_d0 h_S_ j : EReal) = nodeSum x w b := by
  have hs : (Host.reduceAdd (F := Ideal) (φ := .f32) (Host.scatterAdd (F := Ideal) (φ := .f32) dAdd (nodesTerm x w b) (placesTerm (F := Ideal) e) (firstTerm x))
        (constant S_ .f32 0x00000000#32) reducesTo_S100000x1_S1_d0 h_S_ j : EReal)
      = ∑ r : Fin 100000, (Host.scatterAdd (F := Ideal) (φ := .f32) dAdd (nodesTerm x w b) (placesTerm (F := Ideal) e) (firstTerm x) (ix2 r (0 : Fin 1)) : EReal) := by
    generalize Host.scatterAdd (F := Ideal) (φ := .f32) dAdd (nodesTerm x w b) (placesTerm (F := Ideal) e) (firstTerm x) = f
    obtain rfl : j = ix1 (0 : Fin 1) := by funext a; fin_cases a; exact Subsingleton.elim (α := Fin 1) _ _
    pointwise
  rw [hs]
  simp only [added_apply _ e he, nodes_apply, first_apply]
  rw [sum_added, Fin.sum_univ_eq_sum_range (fun n => nodeAt x (fun j => w (ix2 (0 : Fin 1) j)) (b (ix1 (0 : Fin 1))) n),
    Fin.sum_univ_eq_sum_range (fun n => featAt x n 0)]
  rfl

/-- The mean. -/
theorem mean_apply (x : Arr Ideal S100000x140) (e : Wrd Ideal S2x100000) (he : InRange e) (w : Arr Ideal S1x140) (b : Arr Ideal S1) :
    (meanTerm (F := Ideal) x e w b (ix2 (0 : Fin 1) (0 : Fin 1)) : EReal) = nodeSum x w b * ((1 / 100000 : ℝ) : EReal) := by
  show Ideal.div (Host.reduceAdd (F := Ideal) (φ := .f32) (Host.scatterAdd (F := Ideal) (φ := .f32) dAdd (nodesTerm x w b) (placesTerm (F := Ideal) e) (firstTerm x))
        (constant S_ .f32 0x00000000#32) reducesTo_S100000x1_S1_d0 h_S_ _) (Ideal.ofBits .f32 0x47C35000#32) = _
  rw [total_apply x e he, bits_nodes, Ideal.div_coe (by norm_num)]

end Cert.Proof.Ref

end
-- ==== Proof.RefValue.lean ====
/-
  The reference's result in the arguments.
-/
module

public import proofs.«01_k».proof.Proof.RefLoop
public import proofs.«01_k».proof.Proof.RefMean

@[expose] public section

set_option maxRecDepth 100000

noncomputable section

namespace Cert.Proof.Ref

open Cert.ReferenceIdeal Cert.ReferenceIdeal.Gen
open Idealize.ShloMosaic Idealize.ShloMosaic.TcCoe
open Idealize.SL Idealize.SL.Sem
open StableHlo

/-- The last operations' result: the mean and the last output, each with its weight, and the bias. -/
theorem final_apply (g : Arr Ideal S1x1) (ys : Arr Ideal S200x1x1) (wf : Arr Ideal S1x2) (bf : Arr Ideal S1) :
    (finalTerm (F := Ideal) g ys wf bf (ix2 (0 : Fin 1) (0 : Fin 1)) : EReal)
      = (g (ix2 (0 : Fin 1) (0 : Fin 1)) : EReal) * wf (ix2 (0 : Fin 1) (0 : Fin 2))
        + (ys (ix3 (199 : Fin 200) (0 : Fin 1) (0 : Fin 1)) : EReal) * wf (ix2 (0 : Fin 1) (1 : Fin 2)) + (bf (ix1 (0 : Fin 1)) : EReal) := by
  pointwise [finalTerm, turnTerm]
  rw [Fin.sum_univ_one, Fin.sum_univ_one]

variable (m : (ℓ : Loc nD τ sig) → Buf (Elt Ideal) ℓ) (c : Dev nD)

/-- The mean is kept to the end. -/
theorem mean_kept {F : FTy → Type} [FloatOps F] (m : (ℓ : Loc nD τ sig) → Buf (Elt F) ℓ) (c : Dev nD) :
    T1 m 200 c main_v24 = meanTerm (F := F) (m ((c.tc : Thread nD τ).loc main_arg0)) (m ((c.tc : Thread nD τ).loc main_arg1))
      (m ((c.tc : Thread nD τ).loc main_arg3)) (m ((c.tc : Thread nD τ).loc main_arg4)) := by
  rw [T1_kept m mean_step1]
  unfold W2
  rw [mean_mid, T0_kept m mean_step0]
  unfold W0
  rw [pre_mean]

/-- The result where every edge's target is a node. -/
theorem result_apply (he : InRange (m ((c.tc : Thread nD τ).loc main_arg1))) (j : S1x1.Idx) :
    ((W4 m c main_v43 : Arr Ideal S1x1) j : EReal)
      = resultOf (m ((c.tc : Thread nD τ).loc main_arg0)) (argS m c) (m ((c.tc : Thread nD τ).loc main_arg3)) (m ((c.tc : Thread nD τ).loc main_arg4))
          (argW0 m c) (argU0 m c) (argB0 m c) (argB0' m c) (argW1 m c) (argU1 m c) (argB1 m c) (argB1' m c)
          (m ((c.tc : Thread nD τ).loc main_arg13)) (m ((c.tc : Thread nD τ).loc main_arg14)) := by
  refine (at00 (W4 m c main_v43 : Arr Ideal S1x1) j).trans ?_
  unfold W4
  rw [end_eq, mean_kept, arg_at1 m (b := main_arg13) (by decide), arg_at1 m (b := main_arg14) (by decide)]
  refine (final_apply _ _ _ _).trans ?_
  rw [mean_apply _ _ he, loop1_out m c 199]
  rfl

end Cert.Proof.Ref

end
-- ==== Proof.Range.lean ====
/-
  The precondition read: every edge's target is a node.
-/
module

public import proofs.«01_k».proof.Proof.Frames
public import proofs.«01_k».proof.Proof.RefMean

@[expose] public section

set_option maxRecDepth 100000

noncomputable section

namespace Cert.Proof

open Idealize.ShloMosaic Idealize.ShloMosaic.TcCoe Idealize.SL.Sem

/-- A bit that is the conjunction of two is one exactly when both are. -/
theorem andi_one (a b : BitVec 1) : IntOp.andi a b = 1#1 ↔ a = 1#1 ∧ b = 1#1 := by revert a b; decide

/-- A fold of bits by «and» is one only when each is. -/
theorem fold_andi {ι : Type} [DecidableEq ι] (s : Finset ι) (p : ι → BitVec 1) (h : Finset.fold IntOp.andi (1#1) p s = 1#1) : ∀ x ∈ s, p x = 1#1 := by
  induction s using Finset.induction_on with
  | empty => exact fun x hx => absurd hx (Finset.notMem_empty x)
  | insert a s ha ih =>
    rw [Finset.fold_insert ha, andi_one] at h
    intro x hx
    rcases Finset.mem_insert.1 hx with rfl | hx
    · exact h.1
    · exact ih h.2 x hx

/-- The predicate's bit at an edge. -/
theorem bit_range (w : BitVec 32) (h : IntOp.andi (IntOp.cmpi .sge w 0#32) (IntOp.cmpi .slt w 100000#32) = 1#1) : 0 ≤ w.toInt ∧ w.toInt < 100000 := by
  rw [andi_one] at h
  obtain ⟨h0, h1⟩ := h
  have e0 : (0#32 : BitVec 32).sle w = true := by
    by_contra hn
    rw [Bool.not_eq_true] at hn
    exact absurd h0 (by show ¬ BitVec.ofBool ((0#32 : BitVec 32).sle w) = 1#1; rw [hn]; decide)
  have e1 : w.slt 100000#32 = true := by
    by_contra hn
    rw [Bool.not_eq_true] at hn
    exact absurd h1 (by show ¬ BitVec.ofBool (w.slt 100000#32) = 1#1; rw [hn]; decide)
  constructor
  · have := BitVec.sle_iff_toInt_le.1 e0
    simpa using this
  · have := BitVec.slt_iff_toInt_lt.1 e1
    simpa using this

/-- Where the precondition holds, every edge's target is a node. -/
theorem in_range (m : (ℓ : Loc Cert.KernelIdeal.nD Cert.KernelIdeal.τ Cert.KernelIdeal.sig) → Buf (Elt Ideal) ℓ)
    (hp : Cert.Pre_KernelIdeal_edges_in_range (hPre_edges_in_range := preFacts) m) (c : Dev Cert.KernelIdeal.nD) :
    Ref.InRange (m ((c.tc : Thread Cert.KernelIdeal.nD Cert.KernelIdeal.τ).loc Cert.KernelIdeal.main_arg1)) := by
  intro i
  have h := congrFun (hp c) ix0
  generalize m ((c.tc : Thread Cert.KernelIdeal.nD Cert.KernelIdeal.τ).loc Cert.KernelIdeal.main_arg1) = e at h ⊢
  unfold Cert.Pre_edges_in_range.fn at h
  dsimp only at h
  rw [Host.reduce_eq_fold] at h
  refine bit_range _ ?_
  have hb := fold_andi _ _ h (ix1 i) (Finset.mem_filter.2 ⟨Finset.mem_univ _, funext fun a => a.elim0⟩)
  rw [← Ref.cols_apply (F := Ideal) e i]
  exact hb

end Cert.Proof

end
-- ==== Proof.Algebraic.lean ====
/-
  The idealized kernel and the reference end with equal results from equal arguments, every edge's target being a node.
-/
module

public import proofs.«01_k».proof.Proof.KerArr
public import proofs.«01_k».proof.Proof.RefValue
public import proofs.«01_k».proof.Proof.Range

@[expose] public section

set_option maxRecDepth 100000

noncomputable section

namespace Cert.Proof

open Idealize.ShloMosaic Idealize.ShloMosaic.TcCoe Idealize.SL.Sem

/-- The idealized kernel ends with its result at the value in the arguments. -/
theorem kernel_result (m : (ℓ : Loc Cert.KernelIdeal.nD Cert.KernelIdeal.τ Cert.KernelIdeal.sig) → Buf (Elt Ideal) ℓ)
    (r : PUnit × MemSt Cert.KernelIdeal.nD Cert.KernelIdeal.τ Cert.KernelIdeal.sig (Elt Ideal)) (h : Ker.QC m r) (c : Dev Cert.KernelIdeal.nD) :
    r.2.mem ((c.tc : Thread Cert.KernelIdeal.nD Cert.KernelIdeal.τ).loc Cert.KernelIdeal.main_v25)
      = (fun _ => Ker.resultAt m c : Cert.KernelIdeal.S1x1.Idx → EReal) :=
  ((h c).1 11).trans (Ker.result_arr m c)

/-- The two results are one. -/
theorem algebraic : Cert.algebraic_KernelIdeal_ReferenceIdeal_pre_edges_in_range (hKernelIdeal := Cert.KernelIdeal.Gen.facts)
    (hReferenceIdeal := Cert.ReferenceIdeal.Gen.facts) (hPre_edges_in_range := preFacts) := by
  intro m g m' g' hp ha
  refine ⟨fun c => (fun _ => Ker.resultAt m c : Cert.KernelIdeal.S1x1.Idx → EReal), ?_, ?_⟩
  · exact (θ_run _ _ _).mono (fun r h c => ⟨kernel_result m r h.1 c, Ker.args_of m r h.1 c⟩) (Ker.run_main m g)
  · refine (θ_run _ _ _).mono (fun r h c => ⟨?_, ?_⟩) (Ref.run_all m' g')
    · refine (h.1 c Cert.ReferenceIdeal.main_v43 (by decide)).trans (funext fun j => ?_)
      obtain ⟨a0, a1, a2, a3, a4, a5, a6, a7, a8, a9, a10, a11, a12, a13, a14⟩ := ha c
      have he : Ref.InRange (m' ((c.tc : Thread Cert.ReferenceIdeal.nD Cert.ReferenceIdeal.τ).loc Cert.ReferenceIdeal.main_arg1)) := by
        rw [a1]; exact in_range m hp c
      refine (Ref.result_apply m' c he j).trans ?_
      unfold Ref.argS Ref.argW0 Ref.argU0 Ref.argB0 Ref.argB0' Ref.argW1 Ref.argU1 Ref.argB1 Ref.argB1'
      rw [a0, a2, a3, a4, a5, a6, a7, a8, a9, a10, a11, a12, a13, a14]
    · have h' := List.forall_iff_forall_mem.mpr (fun b hb => (h.1 c b (by revert b; decide)).trans ((Ref.args_kept b hb).end m' c) : ∀ b ∈ Ref.argRefs, _)
      simpa only [List.Forall] using h'

end Cert.Proof

end
-- ==== Proof.lean ====
/-
  The certificate's claims, assembled.
-/
module

public import proofs.«01_k».proof.Defs
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, preFacts,
    AsPrinted.frame, frame_kernel, fun m g _ => frame_kernel m g trivial,
    frame_reference, fun m g _ => frame_reference m g trivial, preserves, algebraic⟩

end Cert.Proof

end
